-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S8x64x512 : Shape := ⟨3, ![8, 64, 512]⟩
abbrev S64x512 : Shape := ⟨2, ![64, 512]⟩
abbrev S8 : Shape := ⟨1, ![8]⟩
abbrev S_ : Shape := ⟨0, ![]⟩
abbrev S1 : Shape := ⟨1, ![1]⟩
abbrev S1x64x512 : Shape := ⟨3, ![1, 64, 512]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S8x64x512, .bf16⟩
  | .local _ .vmem, ⟨4, _⟩ => ⟨S64x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.addi v2 c1_i32_32
  let c8_i32_33 : BitVec 32 := 8#32
  let v38 : BitVec 32 := Scalar.remsi v37 c8_i32_33
  let c64_i32 : BitVec 32 := 64#32
  let v39 : BitVec 32 := Scalar.muli v38 c64_i32
  let c0_i32_41 : BitVec 32 := 0#32
  ![v39.toNat, 0]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v37 : BitVec 32 := Scalar.addi v2 c1_i32_32
  let c8_i32_33 : BitVec 32 := 8#32
  let v38 : BitVec 32 := Scalar.remsi v37 c8_i32_33
  let c1_i32_37 : BitVec 32 := 1#32
  let v40 : BitVec 32 := Scalar.muli v38 c1_i32_37
  let v41 : BitVec 32 := Scalar.addi c0_i32_38 v40
  v41.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v49 : BitVec 32 := Scalar.addi v2 c2_i32_42
  let c8_i32_43 : BitVec 32 := 8#32
  let v50 : BitVec 32 := Scalar.remsi v49 c8_i32_43
  let c1_i32_48 : BitVec 32 := 1#32
  let v52 : BitVec 32 := Scalar.muli v50 c1_i32_48
  let v53 : BitVec 32 := Scalar.addi c0_i32_49 v52
  v53.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_53 : BitVec 32 := 3#32
  let v61 : BitVec 32 := Scalar.addi v2 c3_i32_53
  let c8_i32_54 : BitVec 32 := 8#32
  let v62 : BitVec 32 := Scalar.remsi v61 c8_i32_54
  let c1_i32_59 : BitVec 32 := 1#32
  let v64 : BitVec 32 := Scalar.muli v62 c1_i32_59
  let v65 : BitVec 32 := Scalar.addi c0_i32_60 v64
  v65.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v73 : BitVec 32 := Scalar.addi v2 c4_i32_64
  let c8_i32_65 : BitVec 32 := 8#32
  let v74 : BitVec 32 := Scalar.remsi v73 c8_i32_65
  let c1_i32_70 : BitVec 32 := 1#32
  let v76 : BitVec 32 := Scalar.muli v74 c1_i32_70
  let v77 : BitVec 32 := Scalar.addi c0_i32_71 v76
  v77.toNat
def k0_dev12 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_75 : BitVec 32 := 5#32
  let v85 : BitVec 32 := Scalar.addi v2 c5_i32_75
  let c8_i32_76 : BitVec 32 := 8#32
  let v86 : BitVec 32 := Scalar.remsi v85 c8_i32_76
  let c1_i32_81 : BitVec 32 := 1#32
  let v88 : BitVec 32 := Scalar.muli v86 c1_i32_81
  let v89 : BitVec 32 := Scalar.addi c0_i32_82 v88
  v89.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_86 : BitVec 32 := 6#32
  let v97 : BitVec 32 := Scalar.addi v2 c6_i32_86
  let c8_i32_87 : BitVec 32 := 8#32
  let v98 : BitVec 32 := Scalar.remsi v97 c8_i32_87
  let c1_i32_92 : BitVec 32 := 1#32
  let v100 : BitVec 32 := Scalar.muli v98 c1_i32_92
  let v101 : BitVec 32 := Scalar.addi c0_i32_93 v100
  v101.toNat
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v109 : BitVec 32 := Scalar.addi v2 c7_i32_97
  let c8_i32_98 : BitVec 32 := 8#32
  let v110 : BitVec 32 := Scalar.remsi v109 c8_i32_98
  let c1_i32_103 : BitVec 32 := 1#32
  let v112 : BitVec 32 := Scalar.muli v110 c1_i32_103
  let v113 : BitVec 32 := Scalar.addi c0_i32_104 v112
  v113.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_108 : BitVec 32 := 64#32
  let v121 : BitVec 32 := Scalar.muli v2 c64_i32_108
  let v122 : Index := Scalar.indexCast v121
  let c0_109 : Index := 0#32
  ![v122.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_188 : BitVec 32 := 64#32
  let v213 : BitVec 32 := Scalar.muli v2 c64_i32_188
  let c0_i32_193 : BitVec 32 := 0#32
  ![v213.toNat, 0]
def k0_dev15 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v211 : BitVec 32 := Scalar.addi v2 c1_i32_186
  let c8_i32_187 : BitVec 32 := 8#32
  let v212 : BitVec 32 := Scalar.remsi v211 c8_i32_187
  let c1_i32_191 : BitVec 32 := 1#32
  let v214 : BitVec 32 := Scalar.muli v212 c1_i32_191
  let v215 : BitVec 32 := Scalar.addi c0_i32_192 v214
  v215.toNat
def k0_dev16 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_194 : BitVec 32 := 2#32
  let v221 : BitVec 32 := Scalar.addi v2 c2_i32_194
  let c8_i32_195 : BitVec 32 := 8#32
  let v222 : BitVec 32 := Scalar.remsi v221 c8_i32_195
  let c1_i32_199 : BitVec 32 := 1#32
  let v224 : BitVec 32 := Scalar.muli v222 c1_i32_199
  let v225 : BitVec 32 := Scalar.addi c0_i32_200 v224
  v225.toNat
def k0_dev17 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v231 : BitVec 32 := Scalar.addi v2 c3_i32_202
  let c8_i32_203 : BitVec 32 := 8#32
  let v232 : BitVec 32 := Scalar.remsi v231 c8_i32_203
  let c1_i32_207 : BitVec 32 := 1#32
  let v234 : BitVec 32 := Scalar.muli v232 c1_i32_207
  let v235 : BitVec 32 := Scalar.addi c0_i32_208 v234
  v235.toNat
def k0_dev18 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_210 : BitVec 32 := 4#32
  let v241 : BitVec 32 := Scalar.addi v2 c4_i32_210
  let c8_i32_211 : BitVec 32 := 8#32
  let v242 : BitVec 32 := Scalar.remsi v241 c8_i32_211
  let c1_i32_215 : BitVec 32 := 1#32
  let v244 : BitVec 32 := Scalar.muli v242 c1_i32_215
  let v245 : BitVec 32 := Scalar.addi c0_i32_216 v244
  v245.toNat
def k0_dev19 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_218 : BitVec 32 := 5#32
  let v251 : BitVec 32 := Scalar.addi v2 c5_i32_218
  let c8_i32_219 : BitVec 32 := 8#32
  let v252 : BitVec 32 := Scalar.remsi v251 c8_i32_219
  let c1_i32_223 : BitVec 32 := 1#32
  let v254 : BitVec 32 := Scalar.muli v252 c1_i32_223
  let v255 : BitVec 32 := Scalar.addi c0_i32_224 v254
  v255.toNat
def k0_dev20 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_226 : BitVec 32 := 6#32
  let v261 : BitVec 32 := Scalar.addi v2 c6_i32_226
  let c8_i32_227 : BitVec 32 := 8#32
  let v262 : BitVec 32 := Scalar.remsi v261 c8_i32_227
  let c1_i32_231 : BitVec 32 := 1#32
  let v264 : BitVec 32 := Scalar.muli v262 c1_i32_231
  let v265 : BitVec 32 := Scalar.addi c0_i32_232 v264
  v265.toNat
def k0_dev21 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_234 : BitVec 32 := 7#32
  let v271 : BitVec 32 := Scalar.addi v2 c7_i32_234
  let c8_i32_235 : BitVec 32 := 8#32
  let v272 : BitVec 32 := Scalar.remsi v271 c8_i32_235
  let c1_i32_239 : BitVec 32 := 1#32
  let v274 : BitVec 32 := Scalar.muli v272 c1_i32_239
  let v275 : BitVec 32 := Scalar.addi c0_i32_240 v274
  v275.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S8x512x512 : Shape := ⟨3, ![8, 512, 512]⟩
abbrev S_ : Shape := ⟨0, ![]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S8x512x512, .f32⟩
  | .hbm, ⟨3, _⟩ => ⟨S_, .f32⟩
  | .hbm, ⟨4, _⟩ => ⟨S512x512, .f32⟩
  | .hbm, ⟨5, _⟩ => ⟨S512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Offsets.lean ====
/-
# `Offsets`: the eight devices seen from one of them

The kernel runs on a ring of eight devices and every device talks to each of the others once per phase, in the order
of the offset `d = 1, …, 7` to it. This module holds what the proof needs about offsets alone: going `d` devices
forward (`ahead d`) and backward (`behind d`), the opposite offset, the offsets not yet served when a phase has come to
the offset `k` (`from_ k`) and those already served (`upTo k`), and the corresponding facts on separating
conjunctions and sums over them. Nothing here depends on the program.
-/
module

public import Idealize.ShloMosaic.Lib.Pipeline.Launch
public import Idealize.ShloMosaic.Lib.Tactic

@[expose] public section

noncomputable section

namespace Cert.Offsets

open Idealize.SL Idealize.SL.RA Idealize.SL.BI
open scoped Idealize.SL.BI
open Idealize.SL.BI.BIBase Idealize.SL.BI.Laws Idealize.SL.ProofMode

set_option backward.proofsInPublic true

/-- The device `d` places after `c` on the ring. -/
def ahead (d c : Fin 8) : Fin 8 := ⟨(c.val + d.val) % 8, Nat.mod_lt _ (by decide)⟩
/-- The device `d` places before `c`. -/
def behind (d c : Fin 8) : Fin 8 := ⟨(c.val + (8 - d.val)) % 8, Nat.mod_lt _ (by decide)⟩
/-- The offset that leads back. -/
def opp (d : Fin 8) : Fin 8 := ⟨(8 - d.val) % 8, Nat.mod_lt _ (by decide)⟩

/-- Going `d` places forward and back again leads to the same device; -/
theorem behind_ahead (d c : Fin 8) : behind d (ahead d c) = c := by revert d c; decide
/-- and so does going back and forward. -/
theorem ahead_behind (d c : Fin 8) : ahead d (behind d c) = c := by revert d c; decide
/-- The offset back of the offset back is the offset itself. -/
theorem opp_opp (d : Fin 8) : opp (opp d) = d := by revert d; decide
/-- The offset back leads from the device ahead to where one started. -/
theorem ahead_opp (d c : Fin 8) : ahead (opp d) (ahead d c) = c := by revert d c; decide
/-- The offset back of an offset that is not zero is not zero. -/
theorem opp_ne_zero {d : Fin 8} (h : d ≠ 0) : opp d ≠ 0 := by revert d; decide
/-- The device no places ahead is the device itself; -/
theorem ahead_zero (c : Fin 8) : ahead 0 c = c := by revert c; decide
/-- and so is the one no places behind. -/
theorem behind_zero (c : Fin 8) : behind 0 c = c := by revert c; decide

/-- Every device is at one offset ahead of `c`. -/
def aheadEquiv (c : Fin 8) : Fin 8 ≃ Fin 8 where
  toFun d := ahead d c
  invFun b := ⟨(b.val + (8 - c.val)) % 8, Nat.mod_lt _ (by decide)⟩
  left_inv d := by revert c d; decide
  right_inv b := by revert c b; decide
/-- Every device is at one offset behind `c`. -/
def behindEquiv (c : Fin 8) : Fin 8 ≃ Fin 8 where
  toFun d := behind d c
  invFun b := ⟨(c.val + (8 - b.val)) % 8, Nat.mod_lt _ (by decide)⟩
  left_inv d := by revert c d; decide
  right_inv b := by revert c b; decide
/-- The offsets, each matched with its offset back. -/
def oppEquiv : Fin 8 ≃ Fin 8 := ⟨opp, opp, opp_opp, opp_opp⟩
/-- A device and an offset, with the device taken that many places forward. -/
def aheadPair : Fin 8 × Fin 8 ≃ Fin 8 × Fin 8 where
  toFun p := (ahead p.2 p.1, p.2)
  invFun p := (behind p.2 p.1, p.2)
  left_inv p := Prod.ext (behind_ahead p.2 p.1) rfl
  right_inv p := Prod.ext (ahead_behind p.2 p.1) rfl
/-- The two ends of a message swapped: the receiver, and the offset from it back to the sender. -/
def swapPair : Fin 8 × Fin 8 ≃ Fin 8 × Fin 8 where
  toFun p := (ahead p.2 p.1, opp p.2)
  invFun p := (ahead p.2 p.1, opp p.2)
  left_inv p := Prod.ext (ahead_opp p.2 p.1) (opp_opp p.2)
  right_inv p := Prod.ext (ahead_opp p.2 p.1) (opp_opp p.2)

/-! ## Offsets served and not yet served -/

/-- The offsets to the seven other devices. -/
def others : Finset (Fin 8) := Finset.univ.erase 0
/-- The offsets still to be served when a phase comes to `k`. -/
def from_ (k : ℕ) : Finset (Fin 8) := others.filter fun d => k ≤ d.val
/-- The offsets already served then. -/
def upTo (k : ℕ) : Finset (Fin 8) := others.filter fun d => d.val < k

/-- The other offsets are those that are not zero. -/
theorem mem_others {d : Fin 8} : d ∈ others ↔ d ≠ 0 := by unfold others; simp
/-- There are seven of them. -/
theorem others_card : others.card = 7 := by decide
/-- There is at least one. -/
theorem others_nonempty : others.Nonempty := ⟨1, by decide⟩
/-- All seven remain from the first on; -/
theorem from_one : from_ 1 = others := by decide
/-- none remains after the last. -/
theorem from_eight : from_ 8 = ∅ := by decide
/-- None is done before the first; -/
theorem upTo_one : upTo 1 = ∅ := by decide
/-- all seven are after the last. -/
theorem upTo_eight : upTo 8 = others := by decide
/-- Every offset is zero or one of the seven. -/
theorem univ_eq : (Finset.univ : Finset (Fin 8)) = insert 0 others := by decide
/-- Zero is none of the seven. -/
theorem zero_notMem : (0 : Fin 8) ∉ others := by decide

/-- What remains from `d` on is `d` and what remains after it. -/
theorem from_step (d : Fin 8) (h : d ≠ 0) : from_ d.val = insert d (from_ (d.val + 1)) := by revert d; decide
/-- `d` does not remain after itself. -/
theorem from_notMem (d : Fin 8) : d ∉ from_ (d.val + 1) := by revert d; decide
/-- What is done after `d` is `d` and what was done before it. -/
theorem upTo_step (d : Fin 8) (h : d ≠ 0) : upTo (d.val + 1) = insert d (upTo d.val) := by revert d; decide
/-- `d` is not done before itself. -/
theorem upTo_notMem (d : Fin 8) : d ∉ upTo d.val := by revert d; decide
/-- The seven offsets back are the seven offsets. -/
theorem opp_map : others.map oppEquiv.toEmbedding = others := by decide

/-! ## Separating conjunctions over offsets -/

section Sep

universe u

variable {M : Type u} [URA M]

/-- Taking `d` out of what remains from it on. -/
theorem sep_from (Φ : Fin 8 → sProp M) (d : Fin 8) (h : d ≠ 0) :
    bigSep (from_ d.val) Φ = iprop(Φ d ∗ bigSep (from_ (d.val + 1)) Φ) := by
  rw [from_step d h]; exact bigSep_insert (from_notMem d)

/-- Adding `d` to what is done. -/
theorem sep_upTo (Φ : Fin 8 → sProp M) (d : Fin 8) (h : d ≠ 0) :
    bigSep (upTo (d.val + 1)) Φ = iprop(Φ d ∗ bigSep (upTo d.val) Φ) := by
  rw [upTo_step d h]; exact bigSep_insert (upTo_notMem d)

/-- One member of the conjunction, and the others. -/
theorem sep_at {s : Finset (Fin 8)} {d : Fin 8} (h : d ∈ s) (Φ : Fin 8 → sProp M) :
    bigSep s Φ = iprop(Φ d ∗ bigSep (s.erase d) Φ) := bigSep_erase h

/-- Something for every offset: for zero, and for the seven. -/
theorem sep_univ (Φ : Fin 8 → sProp M) : bigSep Finset.univ Φ = iprop(Φ 0 ∗ bigSep others Φ) := by
  rw [univ_eq]; exact bigSep_insert zero_notMem

/-- Something for every device: for oneself, and for the device at every other offset ahead; -/
theorem sep_ahead (Φ : Fin 8 → sProp M) (c : Fin 8) :
    bigSep Finset.univ Φ = iprop(Φ c ∗ bigSep others fun d => Φ (ahead d c)) := by
  rw [bigSep_univ_equiv (aheadEquiv c), sep_univ]
  show iprop(Φ (ahead 0 c) ∗ bigSep others fun d => Φ (ahead d c)) = _
  rw [ahead_zero]

/-- or behind. -/
theorem sep_behind (Φ : Fin 8 → sProp M) (c : Fin 8) :
    bigSep Finset.univ Φ = iprop(Φ c ∗ bigSep others fun d => Φ (behind d c)) := by
  rw [bigSep_univ_equiv (behindEquiv c), sep_univ]
  show iprop(Φ (behind 0 c) ∗ bigSep others fun d => Φ (behind d c)) = _
  rw [behind_zero]

/-- Something for each of the seven, counted by the offsets back. -/
theorem sep_opp (Φ : Fin 8 → sProp M) : bigSep others Φ = bigSep others fun d => Φ (opp d) := by
  conv_lhs => rw [← opp_map, bigSep_map]
  rfl

/-- Something for every optional index: for none, and for each index. -/
theorem sep_option {α : Type} [Fintype α] [DecidableEq α] (Φ : Option α → sProp M) :
    bigSep Finset.univ Φ = iprop(Φ none ∗ bigSep Finset.univ fun a => Φ (some a)) := by
  rw [bigSep_univ_at Φ none]
  have h : (Finset.univ : Finset (Option α)).erase none = Finset.univ.map Function.Embedding.some := by
    ext x; cases x <;> simp
  rw [h, bigSep_map]; rfl

end Sep

/-! ## Sums over offsets -/

/-- A sum over what remains from `d` on: the summand of `d`, and the rest. -/
theorem sum_from {A : Type} [AddCommMonoid A] (f : Fin 8 → A) (d : Fin 8) (h : d ≠ 0) :
    ∑ e ∈ from_ d.val, f e = ∑ e ∈ from_ (d.val + 1), f e + f d := by
  rw [from_step d h, Finset.sum_insert (from_notMem d), add_comm]

end Cert.Offsets

end
-- ==== Proof.KernelIdealSchedule.lean ====
/-
# `KernelIdealSchedule`: what the eight devices owe one another

The kernel on one device. It signals the barrier semaphore of each other device and waits for seven signals of its own;
copies its block of `x` into a scratch buffer; sends the rows of each other device to that device, into the slot of
the receive buffer that belongs to the offset between them; adds the seven slots that arrive to its own rows; and
sends the sum to every other device, into the same rows of the result there.

The protocol, in the terms of the rounds library, with one round only and the offsets `Fin 8` as the names of duties:

* the barrier semaphore of `t` has a duty of one unit for each offset `e ≠ 0`, paid by the device `e` places ahead of
  `t`, which hands over its own receive slot `e` and its own rows `t` of the result: exactly the two places `t` writes
  on that device;
* each of the four families of DMA semaphores has one duty per offset `d ≠ 0`, the credit of one block. Its payload is
  the block the transfer read (both send families) or the block it wrote (both receive families), with its contents.

The contents are functions of the blocks `X c` of the input alone.
-/
module

public import proofs.«01_k».proof.Proof.Offsets
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.ValueIdxCore

@[expose] public section

noncomputable section

namespace Cert.KernelIdealProof

open Cert.KernelIdeal Cert.KernelIdeal.Gen Cert.Offsets
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

set_option backward.proofsInPublic true

variable {F : FTy → Type} [FloatOps F]

/-- The user's ghost state beside the pipeline library's: the rounds of the kernel's own cells. -/
abbrev UB : Type := URounds (GSem nD τ sig) (Fin 8)
/-- The whole ghost state. -/
abbrev UU : Type := UR sig nD τ × UB

local notation "𝕄" => MT nD τ sig Unit (Elt F) ℕ UU ℕ

/-- Where the pipeline's part of it lies, -/
abbrev EP : Emb (UR sig nD τ) (MT nD τ sig Unit (Elt F) ℕ UU ℕ) := embL
/-- and where the kernel's. -/
abbrev ER : Emb UB (MT nD τ sig Unit (Elt F) ℕ UU ℕ) := embR

/-! ## Buffers -/

/-- The staged input, -/
abbrev xM : Memref sig .tc .vmem S512x512 .bf16 := Memref.whole cc0_stg0_0
/-- the staged result, -/
abbrev oM : Memref sig .tc .vmem S512x512 .bf16 := Memref.whole cc0_stg1_0
/-- the copy that is sent from, -/
abbrev bM : Memref sig .tc .vmem S512x512 .bf16 := Memref.whole cc0_scratch0
/-- the receive buffer, -/
abbrev sM : Memref sig .tc .vmem S8x64x512 .bf16 := Memref.whole cc0_scratch1
/-- and the sum that is sent on. -/
abbrev dM : Memref sig .tc .vmem S64x512 .bf16 := Memref.whole cc0_scratch2

/-- The 64 rows of a square buffer from an offset on, and one slot of the receive buffer: the two ends of the transfers. -/
abbrev rowsM (M : Memref sig .tc .vmem S512x512 .bf16) (off : Fin 2 → ℕ) (h : ∀ a, off a + S64x512.size a ≤ S512x512.size a) :
    Memref sig .tc .vmem S64x512 .bf16 :=
  M.slice (Rect.unit (s := S512x512) off S64x512.size h) (fun _ => rfl)
/-- The slot of the receive buffer at an offset, as a block of rows. -/
abbrev slotM (off : Fin 3 → ℕ) (h : ∀ a, off a + S1x64x512.size a ≤ S8x64x512.size a) : Memref sig .tc .vmem S64x512 .bf16 :=
  (sM.slice (Rect.unit (s := S8x64x512) off S1x64x512.size h) (fun _ => rfl)).squeeze S64x512 squeezes_S1x64x512_S64x512

/-- The places of the rows of device `b` in a square buffer, and of slot `d` in the receive buffer. -/
def rowsOf (b : Fin 8) : Finset S512x512.Idx := Finset.univ.filter fun i => (i 0).val / 64 = b.val
/-- The places of slot `d` in the receive buffer. -/
def slotOf (d : Fin 8) : Finset S8x64x512.Idx := Finset.univ.filter fun i => (i 0).val = d.val

/-- A place is in the rows of `b` when its row number says so. -/
theorem mem_rowsOf {b : Fin 8} {i : S512x512.Idx} : i ∈ rowsOf b ↔ (i 0).val / 64 = b.val := by simp [rowsOf]
/-- A place is in slot `d` when its first coordinate is `d`. -/
theorem mem_slotOf {d : Fin 8} {i : S8x64x512.Idx} : i ∈ slotOf d ↔ (i 0).val = d.val := by simp [slotOf]

/-- The rows of two devices do not meet; -/
theorem rowsOf_disjoint (b b' : Fin 8) (h : b ≠ b') : Disjoint (rowsOf b) (rowsOf b') :=
  Finset.disjoint_left.mpr fun i hi hi' => h (Fin.ext ((mem_rowsOf.mp hi).symm.trans (mem_rowsOf.mp hi')))
/-- nor do two slots. -/
theorem slotOf_disjoint (d d' : Fin 8) (h : d ≠ d') : Disjoint (slotOf d) (slotOf d') :=
  Finset.disjoint_left.mpr fun i hi hi' => h (Fin.ext ((mem_slotOf.mp hi).symm.trans (mem_slotOf.mp hi')))
/-- The rows of the eight devices are all rows; -/
theorem rowsOf_cover : Finset.univ.biUnion rowsOf = Finset.univ := by
  ext i
  have h : (i 0).val < 512 := (i 0).isLt
  simp only [Finset.mem_biUnion, Finset.mem_univ, true_and, iff_true]
  exact ⟨⟨(i 0).val / 64, by omega⟩, mem_rowsOf.mpr rfl⟩
/-- and the eight slots are the whole buffer. -/
theorem slotOf_cover : Finset.univ.biUnion slotOf = Finset.univ := by
  ext i
  simp only [Finset.mem_biUnion, Finset.mem_univ, true_and, iff_true]
  exact ⟨i 0, mem_slotOf.mpr rfl⟩

/-- The rectangle of 64 rows at row `64 * b` covers the rows of `b`. -/
theorem rows_rect_set (b : Fin 8) (off : Fin 2 → ℕ) (h) (e : off = ![64 * b.val, 0]) :
    (Rect.unit (s := S512x512) off S64x512.size h).set = rowsOf b := by
  subst e
  ext i
  have h0 : (i 0).val < 512 := (i 0).isLt
  have h1 : (i 1).val < 512 := (i 1).isLt
  rw [Rect.mem_set_unit, mem_rowsOf, Fin.forall_fin_two]
  show (64 * b.val ≤ (i 0).val ∧ (i 0).val < 64 * b.val + 64) ∧ (0 ≤ (i 1).val ∧ (i 1).val < 0 + 512) ↔ _
  omega

/-- The rectangle at slot `d` covers slot `d`. -/
theorem slot_rect_set (d : Fin 8) (off : Fin 3 → ℕ) (h) (e : off = ![d.val, 0, 0]) :
    (Rect.unit (s := S8x64x512) off S1x64x512.size h).set = slotOf d := by
  subst e
  ext i
  have h1 : (i 1).val < 64 := (i 1).isLt
  have h2 : (i 2).val < 512 := (i 2).isLt
  rw [Rect.mem_set_unit, mem_slotOf, Fin.forall_fin_succ, Fin.forall_fin_two]
  show (d.val ≤ (i 0).val ∧ (i 0).val < d.val + 1) ∧ (0 ≤ (i 1).val ∧ (i 1).val < 0 + 64) ∧ (0 ≤ (i 2).val ∧ (i 2).val < 0 + 512) ↔ _
  omega

/-- So the rows sent from the copy are those of `b`, -/
theorem rowsB_set (b : Fin 8) (off) (h) (e : off = ![64 * b.val, 0]) : (rowsM bM off h).view.set = rowsOf b :=
  (View.set_slice_whole _ _).trans (rows_rect_set b off h e)
/-- the rows of the result likewise, -/
theorem rowsO_set (b : Fin 8) (off) (h) (e : off = ![64 * b.val, 0]) : (rowsM oM off h).view.set = rowsOf b :=
  (View.set_slice_whole _ _).trans (rows_rect_set b off h e)
/-- and a slot's view covers the slot. -/
theorem slotM_set (d : Fin 8) (off) (h) (e : off = ![d.val, 0, 0]) : (slotM off h).view.set = slotOf d := by
  show ((View.slice (View.whole cc0_scratch1) _).reshape _ _).set = _
  rw [View.set_reshape]
  exact (View.set_slice_whole _ _).trans (slot_rect_set d off h e)

/-! ## Semaphores and cells -/

/-- The barrier semaphore. -/
abbrev barS : Sem sig := (SemArray.scalar (sig.barrier 0 rfl) : Sems sig S_).sem

/-- Semaphore `d` of the family `f`: 0 and 1 the send and the receive semaphores of the first phase, 2 and 3 of the second. -/
def dsem (f : Fin 4) (d : Fin 8) : DmaSem sig :=
  (⟨2 + (8 * f.val + d.val), by have := f.isLt; have := d.isLt; show _ < 34; omega⟩ : Fin 34)
/-- The family and the offset read back. -/
def famOf (q : DmaSem sig) : Fin 4 := ⟨(q.val - 2) / 8 % 4, Nat.mod_lt _ (by decide)⟩
/-- The offset that a DMA semaphore belongs to. -/
def offOf (q : DmaSem sig) : Fin 8 := ⟨(q.val - 2) % 8, Nat.mod_lt _ (by decide)⟩

/-- A semaphore of family `f` is in family `f`, -/
theorem famOf_dsem (f : Fin 4) (d : Fin 8) : famOf (dsem f d) = f := by revert f d; decide
/-- and the one at offset `d` is at offset `d`. -/
theorem offOf_dsem (f : Fin 4) (d : Fin 8) : offOf (dsem f d) = d := by revert f d; decide
/-- The kernel's own DMA semaphores come after the two of the staging. -/
theorem two_le_dsem (f : Fin 4) (d : Fin 8) : 2 ≤ (dsem f d).val := by revert f d; decide
/-- Family and offset determine the semaphore and are determined by it. -/
theorem dsem_inj {f f' : Fin 4} {d d' : Fin 8} (h : dsem f d = dsem f' d') : f = f' ∧ d = d' :=
  ⟨by rw [← famOf_dsem f d, h, famOf_dsem], by rw [← offOf_dsem f d, h, offOf_dsem]⟩

/-- The barrier cell of `c`. -/
abbrev barCell (c : Dev nD) : GSem nD τ sig := ((c : Thread nD τ), .reg barS)
/-- The cell of `c` in family `f` at offset `d`. -/
abbrev dcell (f : Fin 4) (c : Dev nD) (d : Fin 8) : GSem nD τ sig := ((c : Thread nD τ), .dma (dsem f d))

/-- All the kernel's semaphores by one index: `none` the barrier, `some (f, d)` the DMA ones. -/
def csem : Option (Fin 4 × Fin 8) → SemLoc sig
  | none => .reg barS
  | some p => .dma (dsem p.1 p.2)
/-- The cell that a device and a name stand for. -/
abbrev cellAt (p : Dev nD × Option (Fin 4 × Fin 8)) : GSem nD τ sig := ((p.1 : Thread nD τ), csem p.2)

/-- Different names stand for different semaphores, -/
theorem csem_inj : Function.Injective csem := by
  rintro (_ | ⟨f, d⟩) (_ | ⟨f', d'⟩) h
  · rfl
  · exact absurd h (fun h => by cases h)
  · exact absurd h (fun h => by cases h)
  · have h' : dsem f d = dsem f' d' := by simpa [csem] using h
    obtain ⟨rfl, rfl⟩ := dsem_inj h'
    rfl
/-- and different pairs for different cells. -/
theorem cellAt_inj : Function.Injective cellAt := by
  rintro ⟨c, x⟩ ⟨c', x'⟩ h
  have h1 : (c : Thread nD τ) = (c' : Thread nD τ) := congrArg Prod.fst h
  have h2 : csem x = csem x' := congrArg Prod.snd h
  rw [csem_inj h2, show c = c' from congrArg Prod.fst h1]

/-- The credit of one block. -/
abbrev N : ℕ := (dM : Memref sig .tc .vmem S64x512 .bf16).view.dmaCredit
/-- The credit of one block is not zero. -/
theorem N_pos : 0 < N := View.dmaCredit_pos _ (by decide)

/-! ## Contents -/

section Contents

variable (X : Dev nD → Vec F S512x512 .bf16)

/-- The copy of the input block each device sends from. -/
def copied (c : Fin 8) : Vec F S512x512 .bf16 := k0_pay1 (X c)
/-- The receive buffer of `c`: in slot `d` the rows of `c` of the device `d` places behind. -/
def received (c : Fin 8) : Vec F S8x64x512 .bf16 := fun i =>
  copied X (behind (i 0) c) (ix2 ⟨64 * c.val + (i 1).val, by have := (i 1).isLt; have : (i 1).val < 64 := (i 1).isLt; have := c.isLt; omega⟩ (i 2))
/-- Its own rows of the input, and one slot of the receive buffer. -/
def ownRows (c : Fin 8) : Vec F S64x512 .bf16 := fun i =>
  X c (ix2 ⟨64 * c.val + (i 0).val, by have : (i 0).val < 64 := (i 0).isLt; have := c.isLt; omega⟩ (i 1))
/-- One slot of the receive buffer. -/
def slotAt (c d : Fin 8) : Vec F S1x64x512 .bf16 := fun i => received X c (ix3 d (i 1) (i 2))

/-- The running sums of `c`, and the sum it sends. -/
abbrev sum1 (c : Fin 8) : FVec F S64x512 .f32 := k0_pay2 (ownRows X c) (slotAt X c 1)
/-- The running sum after four slots, -/
abbrev sum4 (c : Fin 8) : FVec F S64x512 .f32 := k0_pay3 (sum1 X c) (slotAt X c 2) (slotAt X c 3) (slotAt X c 4)
/-- and after six. -/
abbrev sum6 (c : Fin 8) : FVec F S64x512 .f32 := k0_pay4 (sum4 X c) (slotAt X c 5) (slotAt X c 6)
/-- The sum that `c` sends on. -/
def reduced (c : Fin 8) : Vec F S64x512 .bf16 := k0_pay5 (sum6 X c) (slotAt X c 7)
/-- The result, the same on every device: the rows of each device as that device reduced them. -/
def result : Vec F S512x512 .bf16 := fun i =>
  reduced X ⟨(i 0).val / 64, by have : (i 0).val < 512 := (i 0).isLt; omega⟩
    (ix2 ⟨(i 0).val % 64, Nat.mod_lt _ (by decide)⟩ (i 1))

end Contents

/-! ## The pieces handed around -/

section Pieces

variable (X : Dev nD → Vec F S512x512 .bf16)

/-- Slot `d` of the receive buffer of `b`, and the rows `t` of its result, at given contents. -/
def slotPts (b : Dev nD) (d : Fin 8) (f : Buf (Elt F) ((b : Thread nD τ).loc cc0_scratch1)) : sProp 𝕄 :=
  ((b : Thread nD τ).loc cc0_scratch1) ↦[slotOf d]{fullShare} f
/-- The rows `t` of the result on `b`, at given contents. -/
def outPts (b : Dev nD) (t : Fin 8) (f : Buf (Elt F) ((b : Thread nD τ).loc cc0_stg1_0)) : sProp 𝕄 :=
  ((b : Thread nD τ).loc cc0_stg1_0) ↦[rowsOf t]{fullShare} f
/-- The rows `t` of the copy on `c`, and the share of its sum that goes with the offset `d`. -/
def copyPts (c : Dev nD) (t : Fin 8) : sProp 𝕄 :=
  ((c : Thread nD τ).loc cc0_scratch0) ↦[rowsOf t]{fullShare} (copied X c)
/-- The share of the sum on `c` that goes with the offset `d`. -/
def redPts (c : Dev nD) (d : Fin 8) : sProp 𝕄 :=
  ((c : Thread nD τ).loc cc0_scratch2) ↦{Transfers.dealOf fullShare others d} (reduced X c)

/-- A slot may be kept in an invariant. -/
instance slotPts_storable (b : Dev nD) (d) (f) : BI.Storable (upEmb : UEmb _ 𝕄) (slotPts (F := F) b d f) := by unfold slotPts; infer_instance
/-- The rows of the result may be kept in an invariant. -/
instance outPts_storable (b : Dev nD) (t) (f) : BI.Storable (upEmb : UEmb _ 𝕄) (outPts (F := F) b t f) := by unfold outPts; infer_instance
/-- The rows of the copy may be kept in an invariant. -/
instance copyPts_storable (c : Dev nD) (t) : BI.Storable (upEmb : UEmb _ 𝕄) (copyPts X c t) := by unfold copyPts; infer_instance
/-- The share of the sum may be kept in an invariant. -/
instance redPts_storable (c : Dev nD) (d) : BI.Storable (upEmb : UEmb _ 𝕄) (redPts X c d) := by unfold redPts; infer_instance

/-- What the signal of duty `e` hands the owner `t` of a barrier cell. -/
def barPay (t e : Fin 8) : sProp 𝕄 :=
  iprop((∃ f, slotPts (F := F) (ahead e t) e f) ∗ ∃ f, outPts (F := F) (ahead e t) t f)
/-- What the transfer at offset `d` hands the owner `c` of a DMA cell. -/
def famPay (f : Fin 4) (c : Dev nD) (d : Fin 8) : sProp 𝕄 :=
  match f with
  | 0 => copyPts X c (ahead d c)
  | 1 => slotPts c d (received X c)
  | 2 => redPts X c d
  | 3 => outPts c (behind d c) (result X)

/-- What a signal hands over may be kept in an invariant; -/
instance barPay_storable (t e : Fin 8) : BI.Storable (upEmb : UEmb _ 𝕄) (barPay (F := F) t e) := by unfold barPay; infer_instance
/-- and what a transfer hands over. -/
instance famPay_storable (f : Fin 4) (c : Dev nD) (d) : BI.Storable (upEmb : UEmb _ 𝕄) (famPay X f c d) := by
  match f with
  | 0 => exact copyPts_storable X c _
  | 1 => exact slotPts_storable c d _
  | 2 => exact redPts_storable X c d
  | 3 => exact outPts_storable c _ _

/-! ## The schedule -/

/-- The schedule: one round on every cell, with its duties, amounts and payloads. -/
def sched : Rounds.Schedule (GSem nD τ sig) (Fin 8) 𝕄 where
  duties g r :=
    if r = 0 ∧ g.1.2 = .tc then
      match g.2 with
      | .reg s => if s = barS then others else ∅
      | .dma q => if 2 ≤ q.val ∧ offOf q ≠ 0 then {0} else ∅
    else ∅
  unitless _ := False
  amount g _ _ := match g.2 with
    | .reg _ => 1
    | .dma _ => N
  payload g _ e := match g.2 with
    | .reg _ => barPay g.1.1 e
    | .dma q => famPay X (famOf q) g.1.1 (offOf q)
  amount_pos g _ _ _ := by
    rcases g with ⟨_, (_ | _)⟩
    · exact Nat.one_pos
    · exact N_pos

/-- Every payload may be kept in an invariant. -/
instance sched_payload_storable (g : GSem nD τ sig) (r : ℕ) (e : Fin 8) :
    BI.Storable (upEmb : UEmb _ 𝕄) ((sched X).payload g r e) := by
  rcases g with ⟨_, (_ | _)⟩
  · exact barPay_storable _ _
  · exact famPay_storable X _ _ _

variable (c : Dev nD) (f : Fin 4) (d : Fin 8)

/-- A barrier has a duty for each of the seven offsets; -/
theorem duties_bar : (sched X).duties (barCell c) 0 = others := by
  dsimp only [sched]; rw [if_pos ⟨rfl, rfl⟩, if_pos rfl]
/-- a DMA cell at an offset that is not zero has one; -/
theorem duties_dma (h : d ≠ 0) : (sched X).duties (dcell f c d) 0 = {0} := by
  dsimp only [sched]; rw [if_pos ⟨rfl, rfl⟩, if_pos ⟨two_le_dsem f d, by rw [offOf_dsem]; exact h⟩]
/-- at offset zero it has none. -/
theorem duties_none : (sched X).duties (dcell f c 0) 0 = ∅ := by
  dsimp only [sched]; rw [if_pos ⟨rfl, rfl⟩, if_neg fun h => h.2 (offOf_dsem f 0)]
/-- After the first round nobody owes anything. -/
theorem duties_later (g : GSem nD τ sig) : ∀ r, 1 ≤ r → (sched X).duties g r = ∅ :=
  fun r hr => by dsimp only [sched]; rw [if_neg fun h => by omega]
/-- At offset zero nobody ever owes anything. -/
theorem duties_none_all (r : ℕ) (_ : 0 ≤ r) : (sched X).duties (dcell f c 0) r = ∅ := by
  rcases Nat.eq_zero_or_pos r with rfl | h
  · exact duties_none X c f
  · exact duties_later X _ r h

/-- What a duty of the barrier hands over. -/
theorem payload_bar (e : Fin 8) : (sched X).payload (barCell c) 0 e = barPay c e := rfl
/-- What the duty of a DMA cell hands over. -/
theorem payload_dma (e : Fin 8) : (sched X).payload (dcell f c d) 0 e = famPay X f c d := by
  dsimp only [sched]; rw [famOf_dsem, offOf_dsem]
/-- A signal pays one unit; -/
theorem amount_bar (e : Fin 8) : (sched X).amount (barCell c) 0 e = 1 := rfl
/-- a transfer pays the credit of one block. -/
theorem amount_dma (e : Fin 8) : (sched X).amount (dcell f c d) 0 e = N := rfl

/-- So a barrier collects seven units, -/
theorem expect_bar : (sched X).expect (barCell c) 0 = 7 := by
  unfold Schedule.expect Schedule.amountOf
  rw [duties_bar, Finset.sum_congr rfl fun e _ => amount_bar X c e, Finset.sum_const, others_card, smul_eq_mul]
/-- and a DMA cell one block's credit. -/
theorem expect_dma (h : d ≠ 0) : (sched X).expect (dcell f c d) 0 = N := by
  unfold Schedule.expect Schedule.amountOf; rw [duties_dma X c f d h, Finset.sum_singleton, amount_dma]

/-- What a barrier's owner gains from the wait; -/
theorem rest_bar : bigSep ((sched X).duties (barCell c) 0 \ ∅) (fun e => (sched X).payload (barCell c) 0 e)
    = bigSep others fun e => barPay (F := F) c e := by
  rw [Finset.sdiff_empty, duties_bar]; rfl
/-- and what a DMA cell's owner gains. -/
theorem rest_dma (h : d ≠ 0) : bigSep ((sched X).duties (dcell f c d) 0 \ ∅) (fun e => (sched X).payload (dcell f c d) 0 e)
    = famPay X f c d := by
  rw [Finset.sdiff_empty, duties_dma X c f d h, bigSep_singleton, payload_dma]

end Pieces

/-! ## What is owed, and the order of the waits -/

/-- What device `c` owes while the second phase has come to the offset `i`, the first to `j` and the signals to `k`. -/
def Ow (c : Dev nD) (i j k : ℕ) : CellTallies nD τ sig Unit :=
  (∑ d ∈ from_ i, tallyAt (dcell 3 (ahead d c) d) () N) + (∑ d ∈ from_ j, tallyAt (dcell 1 (ahead d c) d) () N)
    + ∑ d ∈ from_ k, tallyAt (barCell (ahead d c)) () 1

/-- The signal at offset `d` pays one unit of what is owed. -/
theorem Ow_signal (c : Dev nD) (i j : ℕ) (d : Fin 8) (h : d ≠ 0) :
    Ow c i j d.val = Ow c i j (d.val + 1) + tallyAt (barCell (ahead d c)) () 1 := by
  unfold Ow; rw [sum_from (fun d => tallyAt (barCell (ahead d c)) () 1) d h, ← add_assoc]
/-- The first send at offset `d` pays one block's credit of it; -/
theorem Ow_first (c : Dev nD) (i : ℕ) (d : Fin 8) (h : d ≠ 0) :
    Ow c i d.val 8 = Ow c i (d.val + 1) 8 + tallyAt (dcell 1 (ahead d c) d) () N := by
  unfold Ow; rw [sum_from (fun d => tallyAt (dcell 1 (ahead d c) d) () N) d h, from_eight, Finset.sum_empty, add_zero, add_zero, add_assoc]
/-- and so does the second. -/
theorem Ow_second (c : Dev nD) (d : Fin 8) (h : d ≠ 0) :
    Ow c d.val 8 8 = Ow c (d.val + 1) 8 8 + tallyAt (dcell 3 (ahead d c) d) () N := by
  unfold Ow; rw [sum_from (fun d => tallyAt (dcell 3 (ahead d c) d) () N) d h, from_eight, Finset.sum_empty, Finset.sum_empty, add_zero, add_zero, add_zero, add_zero]
/-- After the last offset nothing is owed. -/
theorem Ow_done (c : Dev nD) : Ow c 8 8 8 = 0 := by
  unfold Ow; rw [from_eight, Finset.sum_empty, Finset.sum_empty, Finset.sum_empty, add_zero, add_zero]

/-- A sum of tallies is positive at a cell only if one of its cells is that one. -/
theorem sum_tally_pos {s : Finset (Fin 8)} {G : Fin 8 → GSem nD τ sig} {k : ℕ} {g : GSem nD τ sig} {u : Unit}
    (h : 0 < (∑ d ∈ s, tallyAt (G d) () k : CellTallies nD τ sig Unit) g u) : ∃ d ∈ s, g = G d := by
  rw [Finset.sum_apply, Finsupp.finset_sum_apply] at h
  obtain ⟨d, hd, hp⟩ := Finset.sum_pos_iff.mp h
  rw [tallyAt_apply] at hp
  refine ⟨d, hd, ?_⟩
  by_contra hn
  rw [if_neg fun h' => hn h'.1] at hp
  exact Nat.lt_irrefl 0 hp

/-- Whatever is still owed is owed to a barrier, to a first arrival or to a second one. -/
theorem Ow_pos {c : Dev nD} {i j k : ℕ} {g : GSem nD τ sig} {u : Unit} (h : 0 < Ow c i j k g u) :
    (∃ d ∈ from_ i, g = dcell 3 (ahead d c) d) ∨ (∃ d ∈ from_ j, g = dcell 1 (ahead d c) d) ∨ ∃ d ∈ from_ k, g = barCell (ahead d c) := by
  unfold Ow at h
  rw [Pi.add_apply, Finsupp.add_apply, Pi.add_apply, Finsupp.add_apply] at h
  by_contra hn
  rw [not_or, not_or] at hn
  rcases Nat.eq_zero_or_pos ((∑ d ∈ from_ i, tallyAt (dcell 3 (ahead d c) d) () N : CellTallies nD τ sig Unit) g u) with h3 | h3
  · rcases Nat.eq_zero_or_pos ((∑ d ∈ from_ j, tallyAt (dcell 1 (ahead d c) d) () N : CellTallies nD τ sig Unit) g u) with h1 | h1
    · simp only [h3, h1, Nat.zero_add] at h
      exact hn.2.2 (sum_tally_pos h)
    · exact hn.2.1 (sum_tally_pos h1)
  · exact hn.1 (sum_tally_pos h3)

/-- Only the cells of the cores have levels. -/
def L (g : GSem nD τ sig) : Finset Unit := if g.1.2 = .tc then {()} else ∅
/-- Barrier cells at 1, the receive cells of the first phase at 2, of the second at 3, everything else at 0. -/
def lv (g : GSem nD τ sig) (_ : Unit) : ℕ := match g.2 with
  | .reg _ => 1
  | .dma q => if q.val < 2 then 0 else match famOf q with
    | 1 => 2
    | 3 => 3
    | _ => 0

/-- The other cells have none. -/
theorem L_of_ne (g : GSem nD τ sig) (h : g.1.2 ≠ .tc) : L g = ∅ := if_neg h
/-- A core's cell has the one. -/
theorem L_tc (c : Dev nD) (sm : SemLoc sig) : L ((c : Thread nD τ), sm) = {()} := if_pos rfl

/-- The barriers are lowest of the kernel's own cells, -/
theorem lv_bar (c : Dev nD) : lv (barCell c) () = 1 := rfl
/-- then come the arrivals of the first exchange, -/
theorem lv_first (c : Dev nD) (d : Fin 8) : lv (dcell 1 c d) () = 2 := by
  dsimp only [lv]; rw [if_neg (Nat.not_lt.mpr (two_le_dsem 1 d)), famOf_dsem]; rfl
/-- then those of the second; -/
theorem lv_second (c : Dev nD) (d : Fin 8) : lv (dcell 3 c d) () = 3 := by
  dsimp only [lv]; rw [if_neg (Nat.not_lt.mpr (two_le_dsem 3 d)), famOf_dsem]; rfl
/-- the staging's cells lie below all of them. -/
theorem lv_stage (c : Dev nD) (q : DmaSem sig) (h : q.val < 2) : lv ((c : Thread nD τ), .dma q) () = 0 := if_pos h

/-- A device may wait on a cell that stands below everything it owes. -/
theorem mayWait_below (c : Dev nD) (sm : SemLoc sig) {i j k : ℕ}
    (h3 : ∀ d ∈ from_ i, lv ((c : Thread nD τ), sm) () < 3) (h1 : ∀ d ∈ from_ j, lv ((c : Thread nD τ), sm) () < 2)
    (h0 : ∀ d ∈ from_ k, lv ((c : Thread nD τ), sm) () < 1) :
    (levAts L lv : sProp 𝕄) ⊢ MayWait (c : Thread nD τ) sm () (Ow c i j k) :=
  MayOwe.of_cut (L := L) (lev := lv) (lv ((c : Thread nD τ), sm) ())
    (fun p hp => by rw [Finset.mem_singleton.mp hp, L_tc]; exact Finset.mem_singleton_self _)
    (fun g u hg => by rcases Ow_pos hg with ⟨d, _, rfl⟩ | ⟨d, _, rfl⟩ | ⟨d, _, rfl⟩ <;> exact Finset.mem_singleton_self _)
    (fun p hp => by rw [Finset.mem_singleton.mp hp])
    (fun g u hg => by
      rcases Ow_pos hg with ⟨d, hd, rfl⟩ | ⟨d, hd, rfl⟩ | ⟨d, hd, rfl⟩
      · rw [lv_second]; exact h3 d hd
      · rw [lv_first]; exact h1 d hd
      · rw [lv_bar]; exact h0 d hd)

/-- A device may wait for its staging while it owes everything, or nothing. -/
theorem mayWait_stage (c : Dev nD) (q : DmaSem sig) (hq : q.val < 2) (O : CellTallies nD τ sig Unit) (hO : O = Ow c 1 1 1 ∨ O = 0) :
    (levAts L lv : sProp 𝕄) ⊢ MayWait (c : Thread nD τ) (.dma q) () O := by
  rcases hO with rfl | rfl
  · have h := lv_stage c q hq
    exact mayWait_below c _ (fun _ _ => by rw [h]; decide) (fun _ _ => by rw [h]; decide) (fun _ _ => by rw [h]; decide)
  · rw [MayWait_zero]; iintro -; iempintro
/-- It may wait at its barrier once it has signalled, -/
theorem mayWait_bar (c : Dev nD) : (levAts L lv : sProp 𝕄) ⊢ MayWait (c : Thread nD τ) (.reg barS) () (Ow c 1 1 8) :=
  mayWait_below c _ (fun _ _ => by rw [lv_bar]; decide) (fun _ _ => by rw [lv_bar]; decide) (fun d hd => by rw [from_eight] at hd; exact absurd hd (Finset.notMem_empty d))
/-- for the first arrivals once it has sent to all, -/
theorem mayWait_first (c : Dev nD) (d : Fin 8) : (levAts L lv : sProp 𝕄) ⊢ MayWait (c : Thread nD τ) (.dma (dsem 1 d)) () (Ow c 1 8 8) := by
  have h := lv_first c d
  exact mayWait_below c _ (fun _ _ => by rw [h]; decide) (fun e he => by rw [from_eight] at he; exact absurd he (Finset.notMem_empty e))
    (fun e he => by rw [from_eight] at he; exact absurd he (Finset.notMem_empty e))
/-- and for anything once it owes nothing. -/
theorem mayWait_done (c : Dev nD) (sm : SemLoc sig) : (levAts L lv : sProp 𝕄) ⊢ MayWait (c : Thread nD τ) sm () (Ow c 8 8 8) := by
  rw [Ow_done, MayWait_zero]; iintro -; iempintro

end Cert.KernelIdealProof

end
-- ==== Proof.KernelIdealSteps.lean ====
/-
# `KernelIdealSteps`: one operation of the kernel at a time

Each kind of operation the kernel repeats for the offsets `d = 1, …, 7` is proved once, for any offset, as a step between
two states of its phase: the signals, the sends of the first phase, the waits of all four families (each closing its
semaphore), the loads of a received slot, and the sends of the second phase. A state holds what the phase still has to
spend (over `from_ k`) and what it has gained (over `upTo k`).
-/
module

public import proofs.«01_k».proof.Proof.KernelIdealSchedule

@[expose] public section

noncomputable section

namespace Cert.KernelIdealProof

open Cert.KernelIdeal Cert.KernelIdeal.Gen Cert.Offsets
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

set_option backward.proofsInPublic true

variable {F : FTy → Type} [FloatOps F]

local notation "𝕄" => MT nD τ sig Unit (Elt F) ℕ UU ℕ

/-- The kernel has no loop that needs a variant. -/
abbrev 𝒱₀ : Variants := Variants.none

/-- The weakest precondition of a program of device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The views the program names -/

section Views

/-- Where an element of a slot's view lies in the receive buffer. -/
theorem slot_emb (d : Fin 8) (off) (h) (e : off = ![d.val, 0, 0]) (j : S64x512.Idx) :
    (slotM off h).view.emb j = (ix3 d (j 0) (j 1) : S8x64x512.Idx) := by
  subst e
  show (Rect.unit (s := S8x64x512) ![d.val, 0, 0] S1x64x512.size h).emb
    (Shape.reshapeEquiv (Shape.Squeezes.numel_eq squeezes_S1x64x512_S64x512) j) = _
  rw [Shape.reshapeEquiv_cons_one]
  funext a
  refine Fin.ext ?_
  match a with
  | ⟨0, _⟩ => show d.val + 1 * 0 = d.val; omega
  | ⟨1, _⟩ => show 0 + 1 * (j 0).val = (j 0).val; omega
  | ⟨2, _⟩ => show 0 + 1 * (j 1).val = (j 1).val; omega

/-- Where an element of a view of rows lies in the square buffer. -/
theorem rows_emb (b : Fin 8) (off : Fin 2 → ℕ) (h) (e : off = ![64 * b.val, 0]) (j : S64x512.Idx) :
    (Rect.unit (s := S512x512) off S64x512.size h).emb j
      = (ix2 ⟨64 * b.val + (j 0).val, by have : (j 0).val < 64 := (j 0).isLt; have := b.isLt; omega⟩ (j 1) : S512x512.Idx) := by
  subst e
  funext a
  refine Fin.ext ?_
  match a with
  | ⟨0, _⟩ => show 64 * b.val + 1 * (j 0).val = 64 * b.val + (j 0).val; omega
  | ⟨1, _⟩ => show 0 + 1 * (j 1).val = (j 1).val; omega

/-- The printed semaphores of the first sends are those of the first family; -/
theorem semSend1 (d : Fin 8) (o) (h) (e : o = ![d.val]) :
    ((cc0_scratch3.slice (Rect.unit (s := S8) o S1.size h)).squeeze S_ squeezes_S1_S_).sem = dsem 0 d := by
  subst e; revert d h; decide
/-- those of the first arrivals are the second family; -/
theorem semRecv1 (d : Fin 8) (o) (h) (e : o = ![d.val]) :
    ((cc0_scratch4.slice (Rect.unit (s := S8) o S1.size h)).squeeze S_ squeezes_S1_S_).sem = dsem 1 d := by
  subst e; revert d h; decide
/-- those of the second sends the third; -/
theorem semSend2 (d : Fin 8) (o) (h) (e : o = ![d.val]) :
    ((cc0_scratch5.slice (Rect.unit (s := S8) o S1.size h)).squeeze S_ squeezes_S1_S_).sem = dsem 2 d := by
  subst e; revert d h; decide
/-- and those of the second arrivals the fourth. -/
theorem semRecv2 (d : Fin 8) (o) (h) (e : o = ![d.val]) :
    ((cc0_scratch6.slice (Rect.unit (s := S8) o S1.size h)).squeeze S_ squeezes_S1_S_).sem = dsem 3 d := by
  subst e; revert d h; decide

variable (X : Dev nD → Vec F S512x512 .bf16)

/-- A send of the first phase leaves in the slot what `received` says. -/
theorem first_lands (c : Dev nD) (d : Fin 8) (off hoff so hso) (e : off = ![64 * (ahead d c).val, 0]) (es : so = ![d.val, 0, 0])
    (fd : (cc0_scratch1 : Ref sig .tc).ty.Contents (Elt F)) (i : S8x64x512.Idx) (hi : i ∈ slotOf d) :
    (slotM so hso).view.write (Elt F) fd ((rowsM bM off hoff).view.read (Elt F) (copied X c)) Finset.univ i = received X (ahead d c) i := by
  rw [← slotM_set d so hso es] at hi
  obtain ⟨j, -, rfl⟩ := Finset.mem_map.mp hi
  rw [View.write_emb_of_mem _ _ (Finset.mem_univ j)]
  have h1 : (slotM so hso).view.emb j = (ix3 d (j 0) (j 1) : S8x64x512.Idx) := slot_emb d so hso es j
  have h2 : (rowsM bM off hoff).view.emb j = (ix2 ⟨64 * (ahead d c).val + (j 0).val, _⟩ (j 1) : S512x512.Idx) := rows_emb (ahead d c) off hoff e j
  rw [h1]
  show copied X c ((rowsM bM off hoff).view.emb j) = copied X (behind d (ahead d c)) _
  rw [h2, behind_ahead]

/-- A send of the second phase leaves in the rows what `result` says. -/
theorem second_lands (c : Dev nD) (off hoff) (e : off = ![64 * c.val, 0])
    (fd : (cc0_stg1_0 : Ref sig .tc).ty.Contents (Elt F)) (w : Vec F S64x512 .bf16) (hw : w = reduced X c) (i : S512x512.Idx) (hi : i ∈ rowsOf c) :
    (rowsM oM off hoff).view.write (Elt F) fd w Finset.univ i = result X i := by
  subst hw
  rw [← rowsO_set c off hoff e] at hi
  obtain ⟨j, -, rfl⟩ := Finset.mem_map.mp hi
  rw [View.write_emb_of_mem _ _ (Finset.mem_univ j)]
  have h2 : (rowsM oM off hoff).view.emb j = (ix2 ⟨64 * c.val + (j 0).val, _⟩ (j 1) : S512x512.Idx) := rows_emb c off hoff e j
  rw [h2]
  have hj : (j 0).val < 64 := (j 0).isLt
  have hc : c.val < 8 := c.isLt
  have hd : (⟨(64 * c.val + (j 0).val) / 64, by omega⟩ : Fin 8) = c := Fin.ext (by show (64 * c.val + (j 0).val) / 64 = c.val; omega)
  have hm : (ix2 ⟨(64 * c.val + (j 0).val) % 64, Nat.mod_lt _ (by decide)⟩ (j 1) : S64x512.Idx) = j := by
    funext a
    match a with
    | ⟨0, _⟩ => exact Fin.ext (by show (64 * c.val + (j 0).val) % 64 = (j 0).val; omega)
    | ⟨1, _⟩ => rfl
  show reduced X c j = reduced X (⟨(64 * c.val + (j 0).val) / 64, _⟩ : Fin 8) (ix2 ⟨(64 * c.val + (j 0).val) % 64, _⟩ (j 1))
  rw [hd, hm]

/-- The load of a slot, and of a device's own rows. -/
theorem read_slot (c : Dev nD) (d : Fin 8) (so hso) (es : so = ![d.val, 0, 0]) :
    (sM : Memref sig .tc .vmem S8x64x512 .bf16).view.readAt (Elt F) (Rect.unit (s := S8x64x512) so S1x64x512.size hso).toLoadRect (received X c)
      = slotAt X c d := by
  subst es
  funext j
  show received X c ((Rect.unit (s := S8x64x512) ![d.val, 0, 0] S1x64x512.size hso).emb j) = received X c (ix3 d (j 1) (j 2))
  refine congrArg _ (funext fun a => Fin.ext ?_)
  match a with
  | ⟨0, _⟩ => have : (j 0).val < 1 := (j 0).isLt; show d.val + 1 * (j 0).val = d.val; omega
  | ⟨1, _⟩ => show 0 + 1 * (j 1).val = (j 1).val; omega
  | ⟨2, _⟩ => show 0 + 1 * (j 2).val = (j 2).val; omega

/-- A load of its own rows from the input gives those rows. -/
theorem read_own (c : Dev nD) (off hoff) (e : off = ![64 * c.val, 0]) :
    (xM : Memref sig .tc .vmem S512x512 .bf16).view.readAt (Elt F) (Rect.unit (s := S512x512) off S64x512.size hoff).toLoadRect (X c)
      = ownRows X c := by
  funext j
  show X c ((Rect.unit (s := S512x512) off S64x512.size hoff).emb j) = _
  rw [rows_emb c off hoff e j]; rfl

/-- The offsets of a load of a whole buffer are zero. -/
theorem hz : (![0, 0] : Fin 2 → Nat) = fun _ => 0 := funext fun a => by fin_cases a <;> rfl

end Views

/-! ## The shared facts -/

section Steps

variable (X : Dev nD → Vec F S512x512 .bf16) (K : Dev nD × Option (Fin 4 × Fin 8) → ℕ)

/-- Every cell of every device has its invariant, and has reached its one round. -/
def records : sProp 𝕄 :=
  bigSep Finset.univ fun p : Dev nD × Option (Fin 4 × Fin 8) => iprop(cellInv ER (sched X) (K p) (cellAt p) ∗ reached ER (cellAt p) 0)
/-- What is known of the cells stays known; -/
instance records_persistent : BI.Persistent (records X K) := by unfold records; infer_instance

/-- What every step may use: those, and the levels. -/
def ctx : sProp 𝕄 := iprop(records X K ∗ levAts L lv)
/-- and so does the whole context. -/
instance ctx_persistent : BI.Persistent (ctx X K) := by unfold ctx; infer_instance

/-- What is known of all cells, read at one of them. -/
theorem records_at (p : Dev nD × Option (Fin 4 × Fin 8)) :
    records X K ⊢ iprop(cellInv ER (sched X) (K p) (cellAt p) ∗ reached ER (cellAt p) 0) :=
  bigSep_elim (Finset.mem_univ p)
/-- The context has the invariant of every cell, -/
theorem ctx_inv (p : Dev nD × Option (Fin 4 × Fin 8)) : ctx X K ⊢ cellInv ER (sched X) (K p) (cellAt p) := by
  unfold ctx
  iintro ⟨H, -⟩
  ihave H' := (records_at X K p) $$ H
  icases H' with ⟨H1, -⟩
  iexact H1
/-- the fact that its first round is reached, -/
theorem ctx_reached (p : Dev nD × Option (Fin 4 × Fin 8)) : ctx X K ⊢ reached ER (cellAt p) 0 := by
  unfold ctx
  iintro ⟨H, -⟩
  ihave H' := (records_at X K p) $$ H
  icases H' with ⟨-, H1⟩
  iexact H1
/-- and the levels. -/
theorem ctx_lev : ctx X K ⊢ levAts L lv := by
  unfold ctx; iintro ⟨-, H⟩; iexact H

/-- What device `c` owes, after some waits. -/
def debt (c : Dev nD) (O : CellTallies nD τ sig Unit) : sProp 𝕄 := iprop(∃ W, owes (c : Thread nD τ) O W)

/-! ## The states of the phases -/

/-- For the signal to the device `d` ahead: its duty there, and the two places that device will write here. -/
abbrev sigTodo (c : Dev nD) (d : Fin 8) : sProp 𝕄 :=
  iprop(dutyTok ER (barCell (ahead d c)) 0 (opp d) ∗ (∃ f, slotPts (F := F) c (opp d) f) ∗ ∃ f, outPts (F := F) c (ahead d c) f)
/-- The state of the signals from offset `k` on. -/
def sigs (c : Dev nD) (k : ℕ) : sProp 𝕄 := iprop(debt c (Ow c 1 1 k) ∗ bigSep (from_ k) (sigTodo (F := F) c))

/-- For the send of the first phase to that device: both duties, the slot there, the rows here. -/
abbrev firstTodo (c : Dev nD) (d : Fin 8) : sProp 𝕄 :=
  iprop(dutyTok ER (dcell 0 c d) 0 0 ∗ dutyTok ER (dcell 1 (ahead d c) d) 0 0 ∗ (∃ f, slotPts (F := F) (ahead d c) d f) ∗ copyPts X c (ahead d c))
/-- The state of the first sends from offset `j` on. -/
def firsts (c : Dev nD) (j : ℕ) : sProp 𝕄 :=
  iprop(debt c (Ow c 1 j 8) ∗ bigSep (from_ j) (firstTodo X c) ∗ bigSep (upTo j) fun d => cred (tallyAt (dcell 0 c d) () N))

/-- For the send of the second phase: both duties, the rows there, a share of the sum here. -/
abbrev secondTodo (c : Dev nD) (d : Fin 8) : sProp 𝕄 :=
  iprop(dutyTok ER (dcell 2 c d) 0 0 ∗ dutyTok ER (dcell 3 (ahead d c) d) 0 0 ∗ (∃ f, outPts (F := F) (ahead d c) c f) ∗ redPts X c d)
/-- The state of the second sends from offset `i` on. -/
def seconds (c : Dev nD) (i : ℕ) : sProp 𝕄 :=
  iprop(debt c (Ow c i 8 8) ∗ bigSep (from_ i) (secondTodo X c) ∗ bigSep (upTo i) fun d => cred (tallyAt (dcell 2 c d) () N))

/-- For a wait: the position at the cell and its credit; after it: the semaphore at zero and the block. -/
abbrev waitTodo (f : Fin 4) (c : Dev nD) (d : Fin 8) : sProp 𝕄 :=
  iprop(atPos ER (dcell f c d) 0 ∅ 0 ∗ cred (tallyAt (dcell f c d) () N))
/-- What a wait at offset `d` leaves: its semaphore at zero, and what was handed over. -/
abbrev waitDone (f : Fin 4) (c : Dev nD) (d : Fin 8) : sProp 𝕄 := iprop(semVal (dcell f c d) 0 ∗ famPay X f c d)
/-- The state of the waits of a family from offset `k` on. -/
def waits (f : Fin 4) (c : Dev nD) (i k : ℕ) : sProp 𝕄 :=
  iprop(debt c (Ow c i 8 8) ∗ bigSep (from_ k) (waitTodo (F := F) f c) ∗ bigSep (upTo k) (waitDone X f c))

/-! ## The steps -/

/-- A program that has ended has run. -/
theorem run_ret (c : Dev nD) {α : Type} (a : α) (Q : α → sProp 𝕄) : Q a ⊢ run c (.ret a) Q := fupd_intro

/-- The signal at offset `d`: it hands over the two places that the signalled device will write here. -/
theorem signal_step (c n : Dev nD) (d : Fin 8) (hd : d ≠ 0) (hn : n = ahead d c) {α : Type} {Q : α → sProp 𝕄} {k : PUnit → Prog (TpuEff nD τ sig (Elt F) Λ₀ .tc) α} :
    iprop(ctx X K ∗ sigs c d.val)
      ⊢ iprop((sigs c (d.val + 1) -∗ run c (k ⟨⟩) Q)
          -∗ run c (.op (.semSignal ((n, .tc) : Thread nD τ) barS (1#32 : BitVec 32).toInt) k) Q) := by
  subst hn
  unfold sigs debt
  rw [sep_from _ d hd]
  iintro ⟨#Hc, ⟨%W, HO⟩, ⟨Htok, Hs, Ho⟩, Hrest⟩ Hk
  iapply (Rounds.wp_signal 𝒱₀ ER (sched X) (c : Thread nD τ) none (dst := (ahead d c : Thread nD τ)) (κ := K (ahead d c, none))
      (d := opp d) (by rw [duties_bar]; exact mem_others.mpr (opp_ne_zero hd)) (amount_bar X (ahead d c) (opp d)) ()
      (Ow c 1 1 (d.val + 1)) (Ow_signal c 1 1 d hd)) $$ [HO Htok Hs Ho]
  · isplitr; · iapply (ctx_inv X K (ahead d c, none)); iexact Hc
    isplitl [HO]; · iexact HO
    isplitl [Htok]; · iexact Htok
    isplitl [Hs Ho]
    · rw [payload_bar]; unfold barPay; rw [ahead_opp]
      isplitl [Hs]; · iexact Hs
      iexact Ho
    · iapply (ctx_reached X K (ahead d c, none)); iexact Hc
  iintro HO
  iapply Hk
  isplitl [HO]
  · iexists W; iexact HO
  iexact Hrest

/-- The first send at offset `d`: the rows of the device ahead leave for its slot `d`. -/
theorem first_step (c n : Dev nD) (d : Fin 8) (hd : d ≠ 0) (hn : n = ahead d c) (off) (hoff) (so) (hso) (qS qR : DmaSem sig)
    (e : off = ![64 * (ahead d c).val, 0]) (es : so = ![d.val, 0, 0]) (hS : qS = dsem 0 d) (hR : qR = dsem 1 d)
    {hsc : (slotM so hso : Memref sig (Dev.tc n : Thread nD τ).2.kind .vmem S64x512 .bf16).view.ref.isScScratch = false}
    {hsrc : (rowsM bM off hoff).view.WordExact} {hdst : (slotM so hso).view.WordExact}
    {hsem : DmaTarget.Typed .vmem (.dma qR) (.remote (Dev.tc n : Thread nD τ) (slotM so hso) (.dma qS) hsc)}
    {α : Type} {Q : α → sProp 𝕄} {k : PUnit → Prog (TpuEff nD τ sig (Elt F) Λ₀ .tc) α} :
    iprop(ctx X K ∗ firsts X c d.val)
      ⊢ iprop((firsts X c (d.val + 1) -∗ run c (k ⟨⟩) Q)
          -∗ run c (.op (.enqueueDma (rowsM bM off hoff) (.remote (Dev.tc n : Thread nD τ) (slotM so hso) (.dma qS) hsc) (.dma qR) hsrc hdst hsem) k) Q) := by
  subst hn hS hR
  unfold firsts debt
  rw [sep_from _ d hd, sep_upTo _ d hd]
  iintro ⟨#Hc, ⟨%W, HO⟩, ⟨⟨HtS, HtR, ⟨%fd, Hs⟩, Hrow⟩, Hrest⟩, Hdone⟩ Hk
  unfold slotPts copyPts
  iapply (Rounds.wp_send_pointsTo 𝒱₀ ER (sched X) (c : Thread nD τ) none (κ₁ := K (c, some (0, d))) (κ₂ := K (ahead d c, some (1, d)))
      (c' := (ahead d c : Thread nD τ)) (src := rowsM bM off hoff) (dst := slotM so hso)
      (r₁ := 0) (r₂ := 0) (d₁ := 0) (d₂ := 0) (q := fullShare) (fs := copied X c) (fd := fd)
      (by rw [duties_dma X c 0 d hd]; exact Finset.mem_singleton_self _) (by rw [duties_dma X (ahead d c) 1 d hd]; exact Finset.mem_singleton_self _)
      () () N rfl (amount_dma X c 0 d 0) (amount_dma X (ahead d c) 1 d 0) (Ow c 1 (d.val + 1) 8) (Ow_first c 1 d hd) (W := W)
      (by rw [payload_dma, rowsB_set (ahead d c) off hoff e]; exact BI.Entails.refl _)
      (by
        rw [payload_dma, slotM_set d so hso es]
        exact Entails.of_eq (pointsTo_congr fun i hi => first_lands X c d off hoff so hso e es fd i hi))) $$ [HO HtS HtR Hs Hrow]
  · isplitr; · iapply (ctx_inv X K (c, some (0, d))); iexact Hc
    isplitr; · iapply (ctx_inv X K (ahead d c, some (1, d))); iexact Hc
    isplitl [Hrow]; · rw [rowsB_set (ahead d c) off hoff e]; iexact Hrow
    isplitl [Hs]; · rw [slotM_set d so hso es]; iexact Hs
    isplitl [HO]; · iexact HO
    isplitl [HtS]; · iexact HtS
    isplitr; · iapply (ctx_reached X K (c, some (0, d))); iexact Hc
    isplitl [HtR]; · iexact HtR
    iapply (ctx_reached X K (ahead d c, some (1, d))); iexact Hc
  iintro ⟨Hcr, HO⟩
  iapply Hk
  isplitl [HO]
  · iexists W; iexact HO
  isplitl [Hrest]; · iexact Hrest
  isplitl [Hcr] <;> iassumption

/-- The second send at offset `d`: the sum leaves for the rows of `c` there. -/
theorem second_step (c n : Dev nD) (d : Fin 8) (hd : d ≠ 0) (hn : n = ahead d c) (off) (hoff) (qS qR : DmaSem sig)
    (e : off = ![64 * c.val, 0]) (hS : qS = dsem 2 d) (hR : qR = dsem 3 d)
    {hsc : (rowsM oM off hoff : Memref sig (Dev.tc n : Thread nD τ).2.kind .vmem S64x512 .bf16).view.ref.isScScratch = false}
    {hsrc : (dM : Memref sig .tc .vmem S64x512 .bf16).view.WordExact} {hdst : (rowsM oM off hoff).view.WordExact}
    {hsem : DmaTarget.Typed .vmem (.dma qR) (.remote (Dev.tc n : Thread nD τ) (rowsM oM off hoff) (.dma qS) hsc)}
    {α : Type} {Q : α → sProp 𝕄} {k : PUnit → Prog (TpuEff nD τ sig (Elt F) Λ₀ .tc) α} :
    iprop(ctx X K ∗ seconds X c d.val)
      ⊢ iprop((seconds X c (d.val + 1) -∗ run c (k ⟨⟩) Q)
          -∗ run c (.op (.enqueueDma dM (.remote (Dev.tc n : Thread nD τ) (rowsM oM off hoff) (.dma qS) hsc) (.dma qR) hsrc hdst hsem) k) Q) := by
  subst hn hS hR
  unfold seconds debt
  rw [sep_from _ d hd, sep_upTo _ d hd]
  iintro ⟨#Hc, ⟨%W, HO⟩, ⟨⟨HtS, HtR, ⟨%fd, Hs⟩, Hred⟩, Hrest⟩, Hdone⟩ Hk
  unfold outPts redPts
  iapply (Rounds.wp_send_pointsTo 𝒱₀ ER (sched X) (c : Thread nD τ) none (κ₁ := K (c, some (2, d))) (κ₂ := K (ahead d c, some (3, d)))
      (c' := (ahead d c : Thread nD τ)) (src := dM) (dst := rowsM oM off hoff)
      (r₁ := 0) (r₂ := 0) (d₁ := 0) (d₂ := 0) (q := Transfers.dealOf fullShare others d) (fs := reduced X c) (fd := fd)
      (by rw [duties_dma X c 2 d hd]; exact Finset.mem_singleton_self _) (by rw [duties_dma X (ahead d c) 3 d hd]; exact Finset.mem_singleton_self _)
      () () N rfl (amount_dma X c 2 d 0) (amount_dma X (ahead d c) 3 d 0) (Ow c (d.val + 1) 8 8) (Ow_second c d hd) (W := W)
      (by rw [payload_dma]; show _ ⊢ redPts X c d; unfold redPts; rw [View.set_whole])
      (by
        rw [payload_dma, rowsO_set c off hoff e]
        show _ ⊢ outPts (ahead d c) (behind d (ahead d c)) (result X)
        rw [behind_ahead]
        exact Entails.of_eq (pointsTo_congr fun i hi => second_lands X c off hoff e fd _ rfl i hi))) $$ [HO HtS HtR Hs Hred]
  · isplitr; · iapply (ctx_inv X K (c, some (2, d))); iexact Hc
    isplitr; · iapply (ctx_inv X K (ahead d c, some (3, d))); iexact Hc
    isplitl [Hred]; · rw [View.set_whole]; iexact Hred
    isplitl [Hs]; · rw [rowsO_set c off hoff e]; iexact Hs
    isplitl [HO]; · iexact HO
    isplitl [HtS]; · iexact HtS
    isplitr; · iapply (ctx_reached X K (c, some (2, d))); iexact Hc
    isplitl [HtR]; · iexact HtR
    iapply (ctx_reached X K (ahead d c, some (3, d))); iexact Hc
  iintro ⟨Hcr, HO⟩
  iapply Hk
  isplitl [HO]
  · iexists W; iexact HO
  isplitl [Hrest]; · iexact Hrest
  isplitl [Hcr] <;> iassumption

/-- The wait of a family at offset `d`: it collects what was handed over and closes the semaphore. -/
theorem wait_step (f : Fin 4) (c : Dev nD) (i : ℕ) (d : Fin 8) (hd : d ≠ 0) (q : DmaSem sig) (hq : q = dsem f d)
    (hw : (levAts L lv : sProp 𝕄) ⊢ MayWait (c : Thread nD τ) (.dma (dsem f d)) () (Ow c i 8 8))
    {sp sp' : Space} {s' : Shape} {ee' : EltTy} {src : Memref sig .tc sp' s' ee'} {dst : Memref sig .tc sp S64x512 .bf16}
    {hsrc : src.view.WordExact} {hdst : dst.view.WordExact}
    {α : Type} {Q : α → sProp 𝕄} {k : PUnit → Prog (TpuEff nD τ sig (Elt F) Λ₀ .tc) α} :
    iprop(ctx X K ∗ waits X f c i d.val)
      ⊢ iprop((waits X f c i (d.val + 1) -∗ run c (k ⟨⟩) Q)
          -∗ run c (.op (.waitDma2 q src dst hsrc hdst) k) Q) := by
  subst hq
  have hN : dst.view.dmaCredit = N := rfl
  unfold waits debt
  rw [sep_from _ d hd, sep_upTo _ d hd]
  iintro ⟨#Hc, ⟨%W, HO⟩, ⟨⟨Hat, Hcr⟩, Hrest⟩, Hdone⟩ Hk
  iapply (Rounds.wp_wait_rest_token 𝒱₀ ER (sched X) (c : Thread nD τ) none (κ := K (c, some (f, d)))
      (wpE_waitDma2_eq 𝒱₀ (c : Thread nD τ) none Set.univ) (Set.mem_univ _) () (O := Ow c i 8 8) (W := W) (R := 0) (m := 0) (T := ∅)
      (by rw [Nat.zero_add, expect_dma X c f d hd])) $$ [Hcr HO Hat]
  · isplitr; · iapply (ctx_inv X K (c, some (f, d))); iexact Hc
    isplitl [Hcr]; · iexact Hcr
    isplitl [HO]; · iexact HO
    isplitr
    · iapply hw; iapply (ctx_lev X K); iexact Hc
    iexact Hat
  iintro ⟨HO, Hat, -, Hpay⟩
  imod (Rounds.cell_close ER (sched X) (Set.mem_univ (K (c, some (f, d)))) (fun h => h) (R := 0 + 1) (duties_later X (dcell f c d))) $$ [Hat] with Hz
  · isplitr; · iapply (ctx_inv X K (c, some (f, d))); iexact Hc
    iexact Hat
  iapply Hk
  isplitl [HO]
  · iexists (insert (SemLoc.dma (dsem f d), ()) W); iexact HO
  isplitl [Hrest]; · iexact Hrest
  isplitr [Hdone]
  · isplitl [Hz]; · iexact Hz
    iapply (Entails.of_eq (rest_dma X c f d hd)); iexact Hpay
  iexact Hdone

/-- What the first arrival at offset `d` hands over is the slot. -/
theorem famPay_slot (c : Dev nD) (d : Fin 8) :
    famPay X 1 c d = (((c : Thread nD τ).loc cc0_scratch1) ↦[slotOf d]{fullShare} (received X c) : sProp 𝕄) := rfl

/-- The load of a slot that has arrived. -/
theorem load_slot_step (c : Dev nD) (i k : ℕ) (d : Fin 8) (hd : d ∈ upTo k) (so hso) (es : so = ![d.val, 0, 0])
    {hl : (sM : Memref sig .tc .vmem S8x64x512 .bf16).view.LoadsAt (Rect.unit (s := S8x64x512) so S1x64x512.size hso).toLoadRect}
    {α : Type} {Q : α → sProp 𝕄} {p : Vec F S1x64x512 .bf16 → Prog (TpuEff nD τ sig (Elt F) Λ₀ .tc) α} :
    waits X 1 c i k
      ⊢ iprop((waits X 1 c i k -∗ run c (p (slotAt X c d)) Q)
          -∗ run c (.op (.load sM (Rect.unit (s := S8x64x512) so S1x64x512.size hso).toLoadRect hl) p) Q) := by
  unfold waits
  rw [sep_at hd]
  iintro ⟨HO, Htodo, ⟨⟨Hz, Hp⟩, Hdone⟩⟩ Hk
  ihave Hs := (Entails.of_eq (famPay_slot X c d)) $$ Hp
  iapply (wp_load 𝒱₀ (c : Thread nD τ) none Set.univ (m := sM) (S := slotOf d)
    (fun x hx => by
      obtain ⟨y, hy, rfl⟩ := Finset.mem_map.mp hx
      rw [← slot_rect_set d so hso es]; exact hy)) $$ Hs
  iintro Hs
  rw [read_slot X c d so hso es]
  iapply Hk
  isplitl [HO]; · iexact HO
  isplitl [Htodo]; · iexact Htodo
  isplitr [Hdone]
  · isplitl [Hz]; · iexact Hz
    iapply (Entails.of_eq (famPay_slot X c d).symm); iexact Hs
  iexact Hdone

end Steps

end Cert.KernelIdealProof

end
-- ==== Proof.KernelIdealBody.lean ====
/-
# `KernelIdealBody`: the kernel's body on one device

The body comes printed in fourteen parts. Each part is run from the state it meets to the state it leaves, by the steps of
`KernelIdealSteps`; between the parts the states are taken apart and put together again: after the barrier the seven
places on the other devices become what the sends need, the copy and the sum are split among the sends, and at the
end all buffers are whole again, every semaphore is at zero, and nothing is owed.
-/
module

public import proofs.«01_k».proof.Proof.KernelIdealSteps

@[expose] public section

noncomputable section

namespace Cert.KernelIdealProof

open Cert.KernelIdeal Cert.KernelIdeal.Gen Cert.Offsets
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

set_option backward.proofsInPublic true

variable {F : FTy → Type} [FloatOps F]

local notation "𝕄" => MT nD τ sig Unit (Elt F) ℕ UU ℕ

section Body

variable (X : Dev nD → Vec F S512x512 .bf16) (K : Dev nD × Option (Fin 4 × Fin 8) → ℕ)

/-! ## Between the phases -/

/-- The duties of the sends of the two phases. -/
def firstToks (c : Dev nD) : sProp 𝕄 :=
  bigSep others fun d => iprop(dutyTok ER (dcell 0 c d) 0 0 ∗ dutyTok ER (dcell 1 (ahead d c) d) 0 0)
/-- The duties of the sends of the second phase. -/
def secondToks (c : Dev nD) : sProp 𝕄 :=
  bigSep others fun d => iprop(dutyTok ER (dcell 2 c d) 0 0 ∗ dutyTok ER (dcell 3 (ahead d c) d) 0 0)
/-- The rows `c` of the result on every other device. -/
def outsThere (c : Dev nD) : sProp 𝕄 := bigSep others fun d => iprop(∃ f, outPts (F := F) (ahead d c) c f)
/-- The whole of one of the buffers of device `c`. -/
abbrev whole (c : Dev nD) (b : Ref sig .tc) (f : Buf (Elt F) ((c : Thread nD τ).loc b)) : sProp 𝕄 := ((c : Thread nD τ).loc b) ↦{fullShare} f

/-- The copy is the rows of `c` itself and those of the seven devices ahead. -/
theorem copy_split (c : Dev nD) :
    whole c cc0_scratch0 (copied X c) = iprop(copyPts X c c ∗ bigSep others fun d => copyPts X c (ahead d c)) := by
  rw [← sep_ahead (fun t => copyPts X c t) c]
  exact Idealize.ShloMosaic.Ring.pointsTo_blocks (ℓ := (c : Thread nD τ).loc cc0_scratch0) (B := Fin 8) rowsOf rowsOf_disjoint rowsOf_cover
    (q := fullShare) (copied X c)
/-- The sum is dealt in seven shares. -/
theorem red_split (c : Dev nD) : whole c cc0_scratch2 (reduced X c) = bigSep others fun d => redPts X c d :=
  Transfers.pointsTo_deal others others_nonempty fullShare
/-- The result is the rows of `c` itself and those of the seven devices behind. -/
theorem out_join (c : Dev nD) :
    whole c cc0_stg1_0 (result X) = iprop(outPts c c (result X) ∗ bigSep others fun d => outPts c (behind d c) (result X)) := by
  rw [← sep_behind (fun t => outPts c t (result X)) c]
  exact Idealize.ShloMosaic.Ring.pointsTo_blocks (ℓ := (c : Thread nD τ).loc cc0_stg1_0) (B := Fin 8) rowsOf rowsOf_disjoint rowsOf_cover
    (q := fullShare) (result X)

/-- The first sends may begin: the copy, the slots on the other devices and the duties are at hand. -/
theorem firsts_start (c : Dev nD) :
    iprop(debt c (Ow c 1 1 8) ∗ (bigSep others fun d => barPay (F := F) c d) ∗ firstToks c ∗ whole c cc0_scratch0 (copied X c))
      ⊢ iprop(firsts X c 1 ∗ outsThere c ∗ copyPts X c c) := by
  unfold firsts firstToks outsThere barPay
  rw [copy_split, from_one, upTo_one, bigSep_empty]
  simp only [bigSep_sep']
  iintro ⟨HO, ⟨Hs, Ho⟩, ⟨Ht, Ht'⟩, Hc, Hcs⟩
  isplitr [Ho Hc]
  · isplitl [HO]; · iexact HO
    isplitl
    · isplitl [Ht]; · iexact Ht
      isplitl [Ht']; · iexact Ht'
      isplitl [Hs] <;> iassumption
    iempintro
  isplitl [Ho] <;> iassumption
/-- After the last of them nothing is owed to the first arrivals, and the credit of every send is there. -/
theorem firsts_end (c : Dev nD) :
    firsts X c ((7 : Fin 8).val + 1) ⊢ iprop(debt c (Ow c 1 8 8) ∗ bigSep others fun d => cred (tallyAt (dcell 0 c d) () N)) := by
  unfold firsts
  rw [show (7 : Fin 8).val + 1 = 8 from rfl, upTo_eight]
  iintro ⟨HO, -, H⟩
  isplitl [HO] <;> iassumption
/-- The second sends may begin: the sum's shares, the rows on the other devices and the duties are at hand. -/
theorem seconds_start (c : Dev nD) :
    iprop(debt c (Ow c 1 8 8) ∗ outsThere c ∗ secondToks c ∗ whole c cc0_scratch2 (reduced X c)) ⊢ seconds X c 1 := by
  unfold seconds secondToks outsThere
  rw [red_split, from_one, upTo_one, bigSep_empty]
  simp only [bigSep_sep']
  iintro ⟨HO, Ho, ⟨Ht, Ht'⟩, Hr⟩
  isplitl [HO]; · iexact HO
  isplitl
  · isplitl [Ht]; · iexact Ht
    isplitl [Ht']; · iexact Ht'
    isplitl [Ho] <;> iassumption
  iempintro
/-- After the last of them nothing at all is owed, and the credit of every send is there. -/
theorem seconds_end (c : Dev nD) :
    seconds X c ((7 : Fin 8).val + 1) ⊢ iprop(debt c (Ow c 8 8 8) ∗ bigSep others fun d => cred (tallyAt (dcell 2 c d) () N)) := by
  unfold seconds
  rw [show (7 : Fin 8).val + 1 = 8 from rfl, upTo_eight]
  iintro ⟨HO, -, H⟩
  isplitl [HO] <;> iassumption
/-- The waits of a family may begin: the places and the credit are at hand. -/
theorem waits_start (f : Fin 4) (c : Dev nD) (i : ℕ) :
    iprop(debt c (Ow c i 8 8) ∗ (bigSep others fun d => atPos ER (dcell f c d) 0 ∅ 0) ∗ bigSep others fun d => cred (tallyAt (dcell f c d) () N))
      ⊢ waits X f c i 1 := by
  unfold waits
  rw [from_one, upTo_one, bigSep_empty]
  simp only [bigSep_sep']
  iintro ⟨HO, Ha, Hc⟩
  isplitl [HO]; · iexact HO
  isplitl
  · isplitl [Ha] <;> iassumption
  iempintro
/-- After the last of them every semaphore is closed and everything handed over is there. -/
theorem waits_end (f : Fin 4) (c : Dev nD) (i : ℕ) :
    waits X f c i ((7 : Fin 8).val + 1) ⊢ iprop(debt c (Ow c i 8 8) ∗ bigSep others (waitDone X f c)) := by
  unfold waits
  rw [show (7 : Fin 8).val + 1 = 8 from rfl, upTo_eight]
  iintro ⟨HO, -, H⟩
  isplitl [HO] <;> iassumption

/-- The barrier: seven units, and the seven places on the other devices. -/
theorem barrier_step (c : Dev nD) {α : Type} {Q : α → sProp 𝕄} {k : PUnit → Prog (TpuEff nD τ sig (Elt F) Λ₀ .tc) α} :
    iprop(ctx X K ∗ sigs c ((7 : Fin 8).val + 1) ∗ atPos ER (barCell c) 0 ∅ 0 ∗ cred (tallyAt (barCell c) () 7))
      ⊢ iprop(((debt c (Ow c 1 1 8) ∗ semVal (barCell c) 0 ∗ bigSep others fun d => barPay (F := F) c d) -∗ run c (k ⟨⟩) Q)
          -∗ run c (.op (.semWait barS (7#32 : BitVec 32).toInt) k) Q) := by
  unfold sigs debt
  iintro ⟨#Hc, ⟨⟨%W, HO⟩, -⟩, Hat, Hcr⟩ Hk
  iapply (Rounds.wp_wait_rest_token 𝒱₀ ER (sched X) (c : Thread nD τ) none (κ := K (c, none))
      (wpE_semWait_eq 𝒱₀ (c : Thread nD τ) none Set.univ) (Set.mem_univ _) () (O := Ow c 1 1 8) (W := W) (R := 0) (m := 0) (T := ∅)
      (by rw [expect_bar]; decide)) $$ [Hcr HO Hat]
  · isplitr; · iapply (ctx_inv X K (c, none)); iexact Hc
    isplitl [Hcr]; · iexact Hcr
    isplitl [HO]; · iexact HO
    isplitr
    · iapply (mayWait_bar c); iapply (ctx_lev X K); iexact Hc
    iexact Hat
  iintro ⟨HO, Hat, -, Hpay⟩
  imod (Rounds.cell_close ER (sched X) (Set.mem_univ (K (c, none))) (fun h => h) (R := 0 + 1) (duties_later X (barCell c))) $$ [Hat] with Hz
  · isplitr; · iapply (ctx_inv X K (c, none)); iexact Hc
    iexact Hat
  iapply Hk
  isplitl [HO]
  · iexists (insert (SemLoc.reg barS, ()) W); iexact HO
  isplitl [Hz]; · iexact Hz
  iapply (Entails.of_eq (rest_bar X c)); iexact Hpay

/-! ## The parts -/

/-- Part 1 gives the signals at offsets 1 to 5. -/
theorem part1_run (c : Dev nD) (Kt : (Σ' (d0 : Dev nD) (v2 : BitVec 32) (v3 : Sems sig S_) (v24 : BitVec 32), BitVec 32) → sProp 𝕄) :
    iprop(ctx X K ∗ sigs c 1 ∗ (∀ v2 : BitVec 32, ∀ v24 : BitVec 32, sigs c 6 -∗ Kt ⟨c, v2, SemArray.scalar (sig.barrier 0 rfl), v24, 8#32⟩))
      ⊢ run c (k0_part1 xM (Memref.isWhole_whole _) oM (Memref.isWhole_whole _) bM (Memref.isWhole_whole _) sM (Memref.isWhole_whole _) dM (Memref.isWhole_whole _)
        cc0_scratch3 cc0_scratch4 cc0_scratch5 cc0_scratch6) Kt := by
  simp only [k0_part1_eq_skeleton]; unfold k0_part1_skel
  simp only [semSignalWord, semWaitWord, Prog.lift, Prog.bind_op, Prog.bind_ret, Prog.pure_eq_ret, wp_deviceId]
  iintro ⟨#Hc, H, Hk⟩
  iapply (signal_step X K c ⟨k0_dev1 c, k0_dev1_lt c⟩ 1 (by decide) (Fin.ext (k0_dev1_eq c))) $$ [H]
  · isplitr; · iexact Hc
    iexact H
  iintro H
  iapply (signal_step X K c ⟨k0_dev2 c, k0_dev2_lt c⟩ 2 (by decide) (Fin.ext (k0_dev2_eq c))) $$ [H]
  · isplitr; · iexact Hc
    iexact H
  iintro H
  iapply (signal_step X K c ⟨k0_dev3 c, k0_dev3_lt c⟩ 3 (by decide) (Fin.ext (k0_dev3_eq c))) $$ [H]
  · isplitr; · iexact Hc
    iexact H
  iintro H
  iapply (signal_step X K c ⟨k0_dev4 c, k0_dev4_lt c⟩ 4 (by decide) (Fin.ext (k0_dev4_eq c))) $$ [H]
  · isplitr; · iexact Hc
    iexact H
  iintro H
  iapply (signal_step X K c ⟨k0_dev5 c, k0_dev5_lt c⟩ 5 (by decide) (Fin.ext (k0_dev5_eq c))) $$ [H]
  · isplitr; · iexact Hc
    iexact H
  iintro H
  iapply (run_ret c)
  iapply Hk
  iexact H

/-- The store of the copy leaves the copy of the input. -/
theorem copy_stored (c : Dev nD) (f : (cc0_scratch0 : Ref sig .tc).ty.Contents (Elt F)) :
    ((c : Thread nD τ).loc cc0_scratch0 ↦{fullShare} ((bM : Memref sig .tc .vmem S512x512 .bf16).access
        (Rect.unit (s := S512x512) ![0, 0] S512x512.size inb_S512x512_S512x512_0_0)).write (Elt F) f
        (k0_pay1 ((xM : Memref sig .tc .vmem S512x512 .bf16).view.readAt (Elt F)
          (Rect.unit (s := S512x512) ![0, 0] S512x512.size inb_S512x512_S512x512_0_0).toLoadRect (X c))) Finset.univ : sProp 𝕄)
      = whole c cc0_scratch0 (copied X c) := by
  have h := Memref.write_access_unit_zero_univ (Elt F) cc0_scratch0 hz inb_S512x512_S512x512_0_0 f
    (k0_pay1 ((xM : Memref sig .tc .vmem S512x512 .bf16).view.readAt (Elt F)
          (Rect.unit (s := S512x512) ![0, 0] S512x512.size inb_S512x512_S512x512_0_0).toLoadRect (X c)))
  rw [show (xM : Memref sig .tc .vmem S512x512 .bf16).view.readAt (Elt F)
          (Rect.unit (s := S512x512) ![0, 0] S512x512.size inb_S512x512_S512x512_0_0).toLoadRect (X c) = X c from
    Memref.readAt_unit_zero (Elt F) cc0_stg0_0 hz inb_S512x512_S512x512_0_0 (X c)] at h ⊢
  exact congrArg (fun g => ((c : Thread nD τ).loc cc0_scratch0 ↦{fullShare} g : sProp 𝕄)) h

/-- Part 2 gives the last two signals, waits at the barrier, stores the copy and does the first send at offset 1. -/
theorem part2_run (c : Dev nD) (v2 v24 e : BitVec 32) (Kt : (Σ' (v38 : BitVec 32), BitVec 32) → sProp 𝕄) :
    iprop(ctx X K ∗ (sigs c 6 ∗ atPos ER (barCell c) 0 ∅ 0 ∗ cred (tallyAt (barCell c) () 7) ∗ whole c cc0_stg0_0 (X c) ∗ (∃ f, whole (F := F) c cc0_scratch0 f) ∗ firstToks c) ∗ (∀ v38 : BitVec 32, ∀ v50 : BitVec 32, (firsts X c 2 ∗ semVal (barCell c) 0 ∗ whole c cc0_stg0_0 (X c) ∗ outsThere c ∗ copyPts X c c) -∗ Kt ⟨v38, v50⟩))
      ⊢ run c (k0_part2 xM (Memref.isWhole_whole _) oM (Memref.isWhole_whole _) bM (Memref.isWhole_whole _) sM (Memref.isWhole_whole _) dM (Memref.isWhole_whole _)
        cc0_scratch3 cc0_scratch4 cc0_scratch5 cc0_scratch6 c v2 (SemArray.scalar (sig.barrier 0 rfl)) v24 e) Kt := by
  simp only [k0_part2_eq_skeleton]; unfold k0_part2_skel
  simp only [semSignalWord, semWaitWord, Prog.lift, Prog.bind_op, Prog.bind_ret, Prog.pure_eq_ret, wp_deviceId]
  iintro ⟨#Hc, ⟨H, Hat, Hcr, Hx, ⟨%fb, Hb⟩, Ht⟩, Hk⟩
  iapply (signal_step X K c ⟨k0_dev6 c, k0_dev6_lt c⟩ 6 (by decide) (Fin.ext (k0_dev6_eq c))) $$ [H]
  · isplitr; · iexact Hc
    iexact H
  iintro H
  iapply (signal_step X K c ⟨k0_dev7 c, k0_dev7_lt c⟩ 7 (by decide) (Fin.ext (k0_dev7_eq c))) $$ [H]
  · isplitr; · iexact Hc
    iexact H
  iintro H
  iapply (barrier_step X K c) $$ [H Hat Hcr]
  · isplitr; · iexact Hc
    isplitl [H]; · iexact H
    isplitl [Hat] <;> iassumption
  iintro ⟨HO, Hz, Hpay⟩
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := Rect.unit (s := S512x512) ![0, 0] S512x512.size inb_S512x512_S512x512_0_0)
    (Mk := Finset.univ) (Finset.subset_univ _)) $$ Hb; iintro Hb
  ihave Hb := (Entails.of_eq (copy_stored X c fb)) $$ Hb
  ihave H' := (firsts_start X c) $$ [HO Hpay Ht Hb]
  · isplitl [HO]; · iexact HO
    isplitl [Hpay]; · iexact Hpay
    isplitl [Ht] <;> iassumption
  icases H' with ⟨H, Hout, Hown⟩
  iapply (first_step X K c ⟨k0_dev8 c, k0_dev8_lt c⟩ 1 (by decide) (Fin.ext (k0_dev8_eq c)) (k0_off1 c 1#32) (k0_off1_inb c 0)
      ![1, 0, 0] inb_S8x64x512_S1x64x512_1_0_0 _ _ (k0_off1_eq c 0) rfl (semSend1 1 ![1] inb_S8_S1_1 rfl) (semRecv1 1 ![1] inb_S8_S1_1 rfl)) $$ [H]
  · isplitr; · iexact Hc
    iexact H
  iintro H
  iapply (run_ret c)
  iapply Hk
  isplitl [H]; · iexact H
  isplitl [Hz]; · iexact Hz
  isplitl [Hx]; · iexact Hx
  isplitl [Hout] <;> iassumption

/-- Part 3 does the first sends at offsets 2 and 3. -/
theorem part3_run (c : Dev nD) (v2 v50 : BitVec 32) (Kt : (Σ' (v62 : BitVec 32), BitVec 32) → sProp 𝕄) :
    iprop(ctx X K ∗ firsts X c 2 ∗ (∀ v62 : BitVec 32, ∀ v74 : BitVec 32, firsts X c 4 -∗ Kt ⟨v62, v74⟩))
      ⊢ run c (k0_part3 xM (Memref.isWhole_whole _) oM (Memref.isWhole_whole _) bM (Memref.isWhole_whole _) sM (Memref.isWhole_whole _) dM (Memref.isWhole_whole _)
        cc0_scratch3 cc0_scratch4 cc0_scratch5 cc0_scratch6 c v2 v50) Kt := by
  simp only [k0_part3_eq_skeleton]; unfold k0_part3_skel
  simp only [semSignalWord, semWaitWord, Prog.lift, Prog.bind_op, Prog.bind_ret, Prog.pure_eq_ret, wp_deviceId]
  iintro ⟨#Hc, H, Hk⟩
  iapply (first_step X K c ⟨k0_dev9 c, k0_dev9_lt c⟩ 2 (by decide) (Fin.ext (k0_dev9_eq c)) (k0_off1 c 2#32) (k0_off1_inb c 1)
      ![2, 0, 0] inb_S8x64x512_S1x64x512_2_0_0 _ _ (k0_off1_eq c 1) rfl (semSend1 2 ![2] inb_S8_S1_2 rfl) (semRecv1 2 ![2] inb_S8_S1_2 rfl)) $$ [H]
  · isplitr; · iexact Hc
    iexact H
  iintro H
  iapply (first_step X K c ⟨k0_dev10 c, k0_dev10_lt c⟩ 3 (by decide) (Fin.ext (k0_dev10_eq c)) (k0_off1 c 3#32) (k0_off1_inb c 2)
      ![3, 0, 0] inb_S8x64x512_S1x64x512_3_0_0 _ _ (k0_off1_eq c 2) rfl (semSend1 3 ![3] inb_S8_S1_3 rfl) (semRecv1 3 ![3] inb_S8_S1_3 rfl)) $$ [H]
  · isplitr; · iexact Hc
    iexact H
  iintro H
  iapply (run_ret c)
  iapply Hk
  iexact H

/-- Part 4 does those at offsets 4 to 6. -/
theorem part4_run (c : Dev nD) (v2 : BitVec 32) (Kt : (Σ' (v86 : BitVec 32) (v98 : BitVec 32), BitVec 32) → sProp 𝕄) :
    iprop(ctx X K ∗ firsts X c 4 ∗ (∀ v86 : BitVec 32, ∀ v98 : BitVec 32, ∀ v110 : BitVec 32, firsts X c 7 -∗ Kt ⟨v86, v98, v110⟩))
      ⊢ run c (k0_part4 xM (Memref.isWhole_whole _) oM (Memref.isWhole_whole _) bM (Memref.isWhole_whole _) sM (Memref.isWhole_whole _) dM (Memref.isWhole_whole _)
        cc0_scratch3 cc0_scratch4 cc0_scratch5 cc0_scratch6 c v2) Kt := by
  simp only [k0_part4_eq_skeleton]; unfold k0_part4_skel
  simp only [semSignalWord, semWaitWord, Prog.lift, Prog.bind_op, Prog.bind_ret, Prog.pure_eq_ret, wp_deviceId]
  iintro ⟨#Hc, H, Hk⟩
  iapply (first_step X K c ⟨k0_dev11 c, k0_dev11_lt c⟩ 4 (by decide) (Fin.ext (k0_dev11_eq c)) (k0_off1 c 4#32) (k0_off1_inb c 3)
      ![4, 0, 0] inb_S8x64x512_S1x64x512_4_0_0 _ _ (k0_off1_eq c 3) rfl (semSend1 4 ![4] inb_S8_S1_4 rfl) (semRecv1 4 ![4] inb_S8_S1_4 rfl)) $$ [H]
  · isplitr; · iexact Hc
    iexact H
  iintro H
  iapply (first_step X K c ⟨k0_dev12 c, k0_dev12_lt c⟩ 5 (by decide) (Fin.ext (k0_dev12_eq c)) (k0_off1 c 5#32) (k0_off1_inb c 4)
      ![5, 0, 0] inb_S8x64x512_S1x64x512_5_0_0 _ _ (k0_off1_eq c 4) rfl (semSend1 5 ![5] inb_S8_S1_5 rfl) (semRecv1 5 ![5] inb_S8_S1_5 rfl)) $$ [H]
  · isplitr; · iexact Hc
    iexact H
  iintro H
  iapply (first_step X K c ⟨k0_dev13 c, k0_dev13_lt c⟩ 6 (by decide) (Fin.ext (k0_dev13_eq c)) (k0_off1 c 6#32) (k0_off1_inb c 5)
      ![6, 0, 0] inb_S8x64x512_S1x64x512_6_0_0 _ _ (k0_off1_eq c 5) rfl (semSend1 6 ![6] inb_S8_S1_6 rfl) (semRecv1 6 ![6] inb_S8_S1_6 rfl)) $$ [H]
  · isplitr; · iexact Hc
    iexact H
  iintro H
  iapply (run_ret c)
  iapply Hk
  iexact H

/-- Part 5 does the one at offset 7, waits for the first arrival at offset 1 and gives the running sum after it. -/
theorem part5_run (c : Dev nD) (v2 v38 v50 v110 : BitVec 32) (Kt : FVec F S64x512 .f32 → sProp 𝕄) :
    iprop(ctx X K ∗ (firsts X c 7 ∗ whole c cc0_stg0_0 (X c) ∗ (bigSep others fun d => atPos ER (dcell 1 c d) 0 ∅ 0) ∗ bigSep others fun d => cred (tallyAt (dcell 1 c d) () N)) ∗ ((waits X 1 c 1 2 ∗ whole c cc0_stg0_0 (X c) ∗ bigSep others fun d => cred (tallyAt (dcell 0 c d) () N)) -∗ Kt (sum1 X c)))
      ⊢ run c (k0_part5 xM (Memref.isWhole_whole _) oM (Memref.isWhole_whole _) bM (Memref.isWhole_whole _) sM (Memref.isWhole_whole _) dM (Memref.isWhole_whole _)
        cc0_scratch3 cc0_scratch4 cc0_scratch5 cc0_scratch6 c v2 v38 v50 v110) Kt := by
  simp only [k0_part5_eq_skeleton]; unfold k0_part5_skel
  simp only [semSignalWord, semWaitWord, Prog.lift, Prog.bind_op, Prog.bind_ret, Prog.pure_eq_ret, wp_deviceId]
  iintro ⟨#Hc, ⟨H, Hx, Hat, Hcr⟩, Hk⟩
  iapply (first_step X K c ⟨k0_dev14 c, k0_dev14_lt c⟩ 7 (by decide) (Fin.ext (k0_dev14_eq c)) (k0_off1 c 7#32) (k0_off1_inb c 6)
      ![7, 0, 0] inb_S8x64x512_S1x64x512_7_0_0 _ _ (k0_off1_eq c 6) rfl (semSend1 7 ![7] inb_S8_S1_7 rfl) (semRecv1 7 ![7] inb_S8_S1_7 rfl)) $$ [H]
  · isplitr; · iexact Hc
    iexact H
  iintro H
  ihave H' := (firsts_end X c) $$ H
  icases H' with ⟨HO, Hcr0⟩
  iapply (wp_load 𝒱₀ (c : Thread nD τ) none Set.univ (m := xM) (Finset.subset_univ _)) $$ Hx; iintro Hx
  rw [read_own X c (k0_off2 c) (k0_off2_inb c) (k0_off2_eq c)]
  ihave H := (waits_start X 1 c 1) $$ [HO Hat Hcr]
  · isplitl [HO]; · iexact HO
    isplitl [Hat] <;> iassumption
  iapply (wait_step X K 1 c 1 1 (by decide) _ (semRecv1 1 ![1] inb_S8_S1_1 rfl) (mayWait_first c 1)) $$ [H]
  · isplitr; · iexact Hc
    iexact H
  iintro H
  iapply (load_slot_step X c 1 ((1 : Fin 8).val + 1) 1 (by decide) ![1, 0, 0] inb_S8x64x512_S1x64x512_1_0_0 rfl) $$ H
  iintro H
  iapply (run_ret c)
  iapply Hk
  isplitl [H]; · iexact H
  isplitl [Hx] <;> iassumption

/-- Part 6 waits for the arrivals at offsets 2 to 4 and adds their slots. -/
theorem part6_run (c : Dev nD) (v62 v74 : BitVec 32) (Kt : FVec F S64x512 .f32 → sProp 𝕄) :
    iprop(ctx X K ∗ waits X 1 c 1 2 ∗ (waits X 1 c 1 5 -∗ Kt (sum4 X c)))
      ⊢ run c (k0_part6 xM (Memref.isWhole_whole _) oM (Memref.isWhole_whole _) bM (Memref.isWhole_whole _) sM (Memref.isWhole_whole _) dM (Memref.isWhole_whole _)
        cc0_scratch3 cc0_scratch4 cc0_scratch5 cc0_scratch6 c v62 v74 (sum1 X c)) Kt := by
  simp only [k0_part6_eq_skeleton]; unfold k0_part6_skel
  simp only [semSignalWord, semWaitWord, Prog.lift, Prog.bind_op, Prog.bind_ret, Prog.pure_eq_ret, wp_deviceId]
  iintro ⟨#Hc, H, Hk⟩
  iapply (wait_step X K 1 c 1 2 (by decide) _ (semRecv1 2 ![2] inb_S8_S1_2 rfl) (mayWait_first c 2)) $$ [H]
  · isplitr; · iexact Hc
    iexact H
  iintro H
  iapply (load_slot_step X c 1 ((2 : Fin 8).val + 1) 2 (by decide) ![2, 0, 0] inb_S8x64x512_S1x64x512_2_0_0 rfl) $$ H
  iintro H
  iapply (wait_step X K 1 c 1 3 (by decide) _ (semRecv1 3 ![3] inb_S8_S1_3 rfl) (mayWait_first c 3)) $$ [H]
  · isplitr; · iexact Hc
    iexact H
  iintro H
  iapply (load_slot_step X c 1 ((3 : Fin 8).val + 1) 3 (by decide) ![3, 0, 0] inb_S8x64x512_S1x64x512_3_0_0 rfl) $$ H
  iintro H
  iapply (wait_step X K 1 c 1 4 (by decide) _ (semRecv1 4 ![4] inb_S8_S1_4 rfl) (mayWait_first c 4)) $$ [H]
  · isplitr; · iexact Hc
    iexact H
  iintro H
  iapply (load_slot_step X c 1 ((4 : Fin 8).val + 1) 4 (by decide) ![4, 0, 0] inb_S8x64x512_S1x64x512_4_0_0 rfl) $$ H
  iintro H
  iapply (run_ret c)
  iapply Hk
  iexact H

/-- Part 7 waits for those at offsets 5 to 7 and gives the running sum after the sixth. -/
theorem part7_run (c : Dev nD) (v86 v98 v110 : BitVec 32) (Kt : FVec F S64x512 .f32 → sProp 𝕄) :
    iprop(ctx X K ∗ waits X 1 c 1 5 ∗ (waits X 1 c 1 ((7 : Fin 8).val + 1) -∗ Kt (sum6 X c)))
      ⊢ run c (k0_part7 xM (Memref.isWhole_whole _) oM (Memref.isWhole_whole _) bM (Memref.isWhole_whole _) sM (Memref.isWhole_whole _) dM (Memref.isWhole_whole _)
        cc0_scratch3 cc0_scratch4 cc0_scratch5 cc0_scratch6 c v86 v98 v110 (sum4 X c)) Kt := by
  simp only [k0_part7_eq_skeleton]; unfold k0_part7_skel
  simp only [semSignalWord, semWaitWord, Prog.lift, Prog.bind_op, Prog.bind_ret, Prog.pure_eq_ret, wp_deviceId]
  iintro ⟨#Hc, H, Hk⟩
  iapply (wait_step X K 1 c 1 5 (by decide) _ (semRecv1 5 ![5] inb_S8_S1_5 rfl) (mayWait_first c 5)) $$ [H]
  · isplitr; · iexact Hc
    iexact H
  iintro H
  iapply (load_slot_step X c 1 ((5 : Fin 8).val + 1) 5 (by decide) ![5, 0, 0] inb_S8x64x512_S1x64x512_5_0_0 rfl) $$ H
  iintro H
  iapply (wait_step X K 1 c 1 6 (by decide) _ (semRecv1 6 ![6] inb_S8_S1_6 rfl) (mayWait_first c 6)) $$ [H]
  · isplitr; · iexact Hc
    iexact H
  iintro H
  iapply (load_slot_step X c 1 ((6 : Fin 8).val + 1) 6 (by decide) ![6, 0, 0] inb_S8x64x512_S1x64x512_6_0_0 rfl) $$ H
  iintro H
  iapply (wait_step X K 1 c 1 7 (by decide) _ (semRecv1 7 ![7] inb_S8_S1_7 rfl) (mayWait_first c 7)) $$ [H]
  · isplitr; · iexact Hc
    iexact H
  iintro H
  iapply (run_ret c)
  iapply Hk
  iexact H

/-- The store of the sum leaves the sum. -/
theorem red_stored (c : Dev nD) (f : (cc0_scratch2 : Ref sig .tc).ty.Contents (Elt F)) :
    ((c : Thread nD τ).loc cc0_scratch2 ↦{fullShare} ((dM : Memref sig .tc .vmem S64x512 .bf16).access
        (Rect.unit (s := S64x512) ![0, 0] S64x512.size inb_S64x512_S64x512_0_0)).write (Elt F) f (k0_pay5 (sum6 X c) (slotAt X c 7)) Finset.univ : sProp 𝕄)
      = whole c cc0_scratch2 (reduced X c) := by
  have h := Memref.write_access_unit_zero_univ (Elt F) cc0_scratch2 hz inb_S64x512_S64x512_0_0 f (reduced X c)
  exact congrArg (fun g => ((c : Thread nD τ).loc cc0_scratch2 ↦{fullShare} g : sProp 𝕄)) h
/-- The rows of `c` in its own result, as the places under the view of those rows. -/
theorem outPts_eq (c : Dev nD) (f : Buf (Elt F) ((c : Thread nD τ).loc cc0_stg1_0)) :
    (outPts c c f : sProp 𝕄) = ((c : Thread nD τ).loc cc0_stg1_0 ↦[rowsOf c]{fullShare} f) := rfl
/-- The load from the result before the store touches the rows of `c` only; -/
theorem own_loaded (c : Dev nD) :
    (oM : Memref sig .tc .vmem S512x512 .bf16).view.setOn (Rect.unit (s := S512x512) (k0_off2 c) S64x512.size (k0_off2_inb c)).set ⊆ rowsOf c := by
  intro i hi
  obtain ⟨y, hy, rfl⟩ := Finset.mem_map.mp hi
  rw [← rows_rect_set c (k0_off2 c) (k0_off2_inb c) (k0_off2_eq c)]; exact hy
/-- and so does the store. -/
theorem own_stored (c : Dev nD) :
    ((oM : Memref sig .tc .vmem S512x512 .bf16).access (Rect.unit (s := S512x512) (k0_off2 c) S64x512.size (k0_off2_inb c))).setOn Finset.univ ⊆ rowsOf c :=
  (rowsO_set c (k0_off2 c) (k0_off2_inb c) (k0_off2_eq c)).subset
/-- So what the store leaves there agrees with the result. -/
theorem own_written (c : Dev nD) (f : (cc0_stg1_0 : Ref sig .tc).ty.Contents (Elt F)) :
    ((c : Thread nD τ).loc cc0_stg1_0 ↦[rowsOf c]{fullShare} ((oM : Memref sig .tc .vmem S512x512 .bf16).access
        (Rect.unit (s := S512x512) (k0_off2 c) S64x512.size (k0_off2_inb c))).write (Elt F) f
        ((dM : Memref sig .tc .vmem S64x512 .bf16).view.readAt (Elt F)
          (Rect.unit (s := S64x512) ![0, 0] S64x512.size inb_S64x512_S64x512_0_0).toLoadRect (reduced X c)) Finset.univ : sProp 𝕄)
      = outPts c c (result X) := by
  exact pointsTo_congr fun i hi => second_lands X c (k0_off2 c) (k0_off2_inb c) (k0_off2_eq c) f _
    (Memref.readAt_unit_zero (Elt F) cc0_scratch2 hz inb_S64x512_S64x512_0_0 (reduced X c)) i hi

/-- Part 8 adds the last slot, stores the sum, also in its own rows of the result, and does the second sends at offsets 1 and 2. -/
theorem part8_run (c : Dev nD) (v2 : BitVec 32) (Kt : (Σ' (v212 : BitVec 32), BitVec 32) → sProp 𝕄) :
    iprop(ctx X K ∗ (waits X 1 c 1 ((7 : Fin 8).val + 1) ∗ (∃ f, whole (F := F) c cc0_scratch2 f) ∗ (∃ f, outPts (F := F) c c f) ∗ outsThere c ∗ secondToks c) ∗ (∀ v212 : BitVec 32, ∀ v222 : BitVec 32, (seconds X c 3 ∗ bigSep others (waitDone X 1 c) ∗ outPts c c (result X)) -∗ Kt ⟨v212, v222⟩))
      ⊢ run c (k0_part8 xM (Memref.isWhole_whole _) oM (Memref.isWhole_whole _) bM (Memref.isWhole_whole _) sM (Memref.isWhole_whole _) dM (Memref.isWhole_whole _)
        cc0_scratch3 cc0_scratch4 cc0_scratch5 cc0_scratch6 c v2 (sum6 X c)) Kt := by
  simp only [k0_part8_eq_skeleton]; unfold k0_part8_skel
  simp only [semSignalWord, semWaitWord, Prog.lift, Prog.bind_op, Prog.bind_ret, Prog.pure_eq_ret, wp_deviceId]
  iintro ⟨#Hc, ⟨H, ⟨%fd, Hd⟩, ⟨%fo, Ho⟩, Hout, Ht⟩, Hk⟩
  iapply (load_slot_step X c 1 ((7 : Fin 8).val + 1) 7 (by decide) ![7, 0, 0] inb_S8x64x512_S1x64x512_7_0_0 rfl) $$ H
  iintro H
  iapply (wp_load 𝒱₀ (c : Thread nD τ) none Set.univ (m := dM) (Finset.subset_univ _)) $$ Hd; iintro Hd
  iapply (wp_store 𝒱₀ (c : Thread nD τ) none Set.univ (m := dM) (r := Rect.unit (s := S64x512) ![0, 0] S64x512.size inb_S64x512_S64x512_0_0)
    (Mk := Finset.univ) (Finset.subset_univ _)) $$ Hd; iintro Hd
  ihave Hd := (Entails.of_eq (red_stored X c fd)) $$ Hd
  iapply (wp_load 𝒱₀ (c : Thread nD τ) none Set.univ (m := dM) (Finset.subset_univ _)) $$ Hd; iintro Hd
  ihave Ho := (Entails.of_eq (outPts_eq c fo)) $$ Ho
  iapply (wp_load 𝒱₀ (c : Thread nD τ) none Set.univ (m := oM) (S := rowsOf c) (own_loaded c)) $$ Ho; iintro Ho
  iapply (wp_store 𝒱₀ (c : Thread nD τ) none Set.univ (m := oM) (r := Rect.unit (s := S512x512) (k0_off2 c) S64x512.size (k0_off2_inb c))
    (Mk := Finset.univ) (S := rowsOf c) (own_stored c)) $$ Ho; iintro Ho
  ihave Ho := (Entails.of_eq (own_written X c fo)) $$ Ho
  ihave H' := (waits_end X 1 c 1) $$ H
  icases H' with ⟨HO, Hdone⟩
  ihave H := (seconds_start X c) $$ [HO Hout Ht Hd]
  · isplitl [HO]; · iexact HO
    isplitl [Hout]; · iexact Hout
    isplitl [Ht] <;> iassumption
  iapply (second_step X K c ⟨k0_dev15 c, k0_dev15_lt c⟩ 1 (by decide) (Fin.ext (k0_dev15_eq c)) (k0_off3 c) (k0_off3_inb c)
      _ _ (k0_off3_eq c) (semSend2 1 ![1] inb_S8_S1_1 rfl) (semRecv2 1 ![1] inb_S8_S1_1 rfl)) $$ [H]
  · isplitr; · iexact Hc
    iexact H
  iintro H
  iapply (second_step X K c ⟨k0_dev16 c, k0_dev16_lt c⟩ 2 (by decide) (Fin.ext (k0_dev16_eq c)) (k0_off3 c) (k0_off3_inb c)
      _ _ (k0_off3_eq c) (semSend2 2 ![2] inb_S8_S1_2 rfl) (semRecv2 2 ![2] inb_S8_S1_2 rfl)) $$ [H]
  · isplitr; · iexact Hc
    iexact H
  iintro H
  iapply (run_ret c)
  iapply Hk
  isplitl [H]; · iexact H
  isplitl [Hdone] <;> iassumption

/-- Part 9 does the second sends at offsets 3 to 5. -/
theorem part9_run (c : Dev nD) (v2 : BitVec 32) (Kt : (Σ' (v232 : BitVec 32) (v242 : BitVec 32) (v252 : BitVec 32) (v261 : BitVec 32), BitVec 32) → sProp 𝕄) :
    iprop(ctx X K ∗ seconds X c 3 ∗ (∀ v232 : BitVec 32, ∀ v242 : BitVec 32, ∀ v252 : BitVec 32, ∀ v261 : BitVec 32, seconds X c 6 -∗ Kt ⟨v232, v242, v252, v261, 8#32⟩))
      ⊢ run c (k0_part9 xM (Memref.isWhole_whole _) oM (Memref.isWhole_whole _) bM (Memref.isWhole_whole _) sM (Memref.isWhole_whole _) dM (Memref.isWhole_whole _)
        cc0_scratch3 cc0_scratch4 cc0_scratch5 cc0_scratch6 c v2) Kt := by
  simp only [k0_part9_eq_skeleton]; unfold k0_part9_skel
  simp only [semSignalWord, semWaitWord, Prog.lift, Prog.bind_op, Prog.bind_ret, Prog.pure_eq_ret, wp_deviceId]
  iintro ⟨#Hc, H, Hk⟩
  iapply (second_step X K c ⟨k0_dev17 c, k0_dev17_lt c⟩ 3 (by decide) (Fin.ext (k0_dev17_eq c)) (k0_off3 c) (k0_off3_inb c)
      _ _ (k0_off3_eq c) (semSend2 3 ![3] inb_S8_S1_3 rfl) (semRecv2 3 ![3] inb_S8_S1_3 rfl)) $$ [H]
  · isplitr; · iexact Hc
    iexact H
  iintro H
  iapply (second_step X K c ⟨k0_dev18 c, k0_dev18_lt c⟩ 4 (by decide) (Fin.ext (k0_dev18_eq c)) (k0_off3 c) (k0_off3_inb c)
      _ _ (k0_off3_eq c) (semSend2 4 ![4] inb_S8_S1_4 rfl) (semRecv2 4 ![4] inb_S8_S1_4 rfl)) $$ [H]
  · isplitr; · iexact Hc
    iexact H
  iintro H
  iapply (second_step X K c ⟨k0_dev19 c, k0_dev19_lt c⟩ 5 (by decide) (Fin.ext (k0_dev19_eq c)) (k0_off3 c) (k0_off3_inb c)
      _ _ (k0_off3_eq c) (semSend2 5 ![5] inb_S8_S1_5 rfl) (semRecv2 5 ![5] inb_S8_S1_5 rfl)) $$ [H]
  · isplitr; · iexact Hc
    iexact H
  iintro H
  iapply (run_ret c)
  iapply Hk
  iexact H

/-- Part 10 does those at offsets 6 and 7 and waits for the second arrivals at offsets 1 and 2. -/
theorem part10_run (c : Dev nD) (v2 v212 v222 v261 e : BitVec 32) (Kt : (Σ' (v262 : BitVec 32) (v272 : BitVec 32), BitVec 32) → sProp 𝕄) :
    iprop(ctx X K ∗ (seconds X c 6 ∗ (bigSep others fun d => atPos ER (dcell 3 c d) 0 ∅ 0) ∗ bigSep others fun d => cred (tallyAt (dcell 3 c d) () N)) ∗ (∀ v262 : BitVec 32, ∀ v272 : BitVec 32, (waits X 3 c 8 3 ∗ bigSep others fun d => cred (tallyAt (dcell 2 c d) () N)) -∗ Kt ⟨v262, v272, 1#32⟩))
      ⊢ run c (k0_part10 xM (Memref.isWhole_whole _) oM (Memref.isWhole_whole _) bM (Memref.isWhole_whole _) sM (Memref.isWhole_whole _) dM (Memref.isWhole_whole _)
        cc0_scratch3 cc0_scratch4 cc0_scratch5 cc0_scratch6 c v2 v212 v222 v261 e) Kt := by
  simp only [k0_part10_eq_skeleton]; unfold k0_part10_skel
  simp only [semSignalWord, semWaitWord, Prog.lift, Prog.bind_op, Prog.bind_ret, Prog.pure_eq_ret, wp_deviceId]
  iintro ⟨#Hc, ⟨H, Hat, Hcr⟩, Hk⟩
  iapply (second_step X K c ⟨k0_dev20 c, k0_dev20_lt c⟩ 6 (by decide) (Fin.ext (k0_dev20_eq c)) (k0_off3 c) (k0_off3_inb c)
      _ _ (k0_off3_eq c) (semSend2 6 ![6] inb_S8_S1_6 rfl) (semRecv2 6 ![6] inb_S8_S1_6 rfl)) $$ [H]
  · isplitr; · iexact Hc
    iexact H
  iintro H
  iapply (second_step X K c ⟨k0_dev21 c, k0_dev21_lt c⟩ 7 (by decide) (Fin.ext (k0_dev21_eq c)) (k0_off3 c) (k0_off3_inb c)
      _ _ (k0_off3_eq c) (semSend2 7 ![7] inb_S8_S1_7 rfl) (semRecv2 7 ![7] inb_S8_S1_7 rfl)) $$ [H]
  · isplitr; · iexact Hc
    iexact H
  iintro H
  ihave H' := (seconds_end X c) $$ H
  icases H' with ⟨HO, Hcr2⟩
  ihave H := (waits_start X 3 c 8) $$ [HO Hat Hcr]
  · isplitl [HO]; · iexact HO
    isplitl [Hat] <;> iassumption
  iapply (wait_step X K 3 c 8 1 (by decide) _ (semRecv2 1 ![1] inb_S8_S1_1 rfl) (mayWait_done c _)) $$ [H]
  · isplitr; · iexact Hc
    iexact H
  iintro H
  iapply (wait_step X K 3 c 8 2 (by decide) _ (semRecv2 2 ![2] inb_S8_S1_2 rfl) (mayWait_done c _)) $$ [H]
  · isplitr; · iexact Hc
    iexact H
  iintro H
  iapply (run_ret c)
  iapply Hk
  isplitl [H]; · iexact H
  iassumption

/-- Part 11 waits for the second arrivals at offsets 3 to 7. -/
theorem part11_run (c : Dev nD) (v232 v242 v252 v262 v272 e : BitVec 32) (Kt : PUnit → sProp 𝕄) :
    iprop(ctx X K ∗ waits X 3 c 8 3 ∗ (waits X 3 c 8 ((7 : Fin 8).val + 1) -∗ Kt ⟨⟩))
      ⊢ run c (k0_part11 xM (Memref.isWhole_whole _) oM (Memref.isWhole_whole _) bM (Memref.isWhole_whole _) sM (Memref.isWhole_whole _) dM (Memref.isWhole_whole _)
        cc0_scratch3 cc0_scratch4 cc0_scratch5 cc0_scratch6 c v232 v242 v252 v262 v272 e) Kt := by
  simp only [k0_part11_eq_skeleton]; unfold k0_part11_skel
  simp only [semSignalWord, semWaitWord, Prog.lift, Prog.bind_op, Prog.bind_ret, Prog.pure_eq_ret, wp_deviceId]
  iintro ⟨#Hc, H, Hk⟩
  iapply (wait_step X K 3 c 8 3 (by decide) _ (semRecv2 3 ![3] inb_S8_S1_3 rfl) (mayWait_done c _)) $$ [H]
  · isplitr; · iexact Hc
    iexact H
  iintro H
  iapply (wait_step X K 3 c 8 4 (by decide) _ (semRecv2 4 ![4] inb_S8_S1_4 rfl) (mayWait_done c _)) $$ [H]
  · isplitr; · iexact Hc
    iexact H
  iintro H
  iapply (wait_step X K 3 c 8 5 (by decide) _ (semRecv2 5 ![5] inb_S8_S1_5 rfl) (mayWait_done c _)) $$ [H]
  · isplitr; · iexact Hc
    iexact H
  iintro H
  iapply (wait_step X K 3 c 8 6 (by decide) _ (semRecv2 6 ![6] inb_S8_S1_6 rfl) (mayWait_done c _)) $$ [H]
  · isplitr; · iexact Hc
    iexact H
  iintro H
  iapply (wait_step X K 3 c 8 7 (by decide) _ (semRecv2 7 ![7] inb_S8_S1_7 rfl) (mayWait_done c _)) $$ [H]
  · isplitr; · iexact Hc
    iexact H
  iintro H
  iapply (run_ret c)
  iapply Hk
  iexact H

/-- Part 12 waits for the first sends at offsets 1 to 5. -/
theorem part12_run (c : Dev nD) (Kt : PUnit → sProp 𝕄) :
    iprop(ctx X K ∗ waits X 0 c 8 1 ∗ (waits X 0 c 8 6 -∗ Kt ⟨⟩))
      ⊢ run c (k0_part12 xM (Memref.isWhole_whole _) oM (Memref.isWhole_whole _) bM (Memref.isWhole_whole _) sM (Memref.isWhole_whole _) dM (Memref.isWhole_whole _)
        cc0_scratch3 cc0_scratch4 cc0_scratch5 cc0_scratch6 c) Kt := by
  simp only [k0_part12_eq_skeleton]; unfold k0_part12_skel
  simp only [semSignalWord, semWaitWord, Prog.lift, Prog.bind_op, Prog.bind_ret, Prog.pure_eq_ret, wp_deviceId]
  iintro ⟨#Hc, H, Hk⟩
  iapply (wait_step X K 0 c 8 1 (by decide) _ (semSend1 1 ![1] inb_S8_S1_1 rfl) (mayWait_done c _)) $$ [H]
  · isplitr; · iexact Hc
    iexact H
  iintro H
  iapply (wait_step X K 0 c 8 2 (by decide) _ (semSend1 2 ![2] inb_S8_S1_2 rfl) (mayWait_done c _)) $$ [H]
  · isplitr; · iexact Hc
    iexact H
  iintro H
  iapply (wait_step X K 0 c 8 3 (by decide) _ (semSend1 3 ![3] inb_S8_S1_3 rfl) (mayWait_done c _)) $$ [H]
  · isplitr; · iexact Hc
    iexact H
  iintro H
  iapply (wait_step X K 0 c 8 4 (by decide) _ (semSend1 4 ![4] inb_S8_S1_4 rfl) (mayWait_done c _)) $$ [H]
  · isplitr; · iexact Hc
    iexact H
  iintro H
  iapply (wait_step X K 0 c 8 5 (by decide) _ (semSend1 5 ![5] inb_S8_S1_5 rfl) (mayWait_done c _)) $$ [H]
  · isplitr; · iexact Hc
    iexact H
  iintro H
  iapply (run_ret c)
  iapply Hk
  iexact H

/-- Part 13 waits for those at offsets 6 and 7, and for the second sends at offsets 1 to 4. -/
theorem part13_run (c : Dev nD) (Kt : PUnit → sProp 𝕄) :
    iprop(ctx X K ∗ (waits X 0 c 8 6 ∗ (bigSep others fun d => atPos ER (dcell 2 c d) 0 ∅ 0) ∗ bigSep others fun d => cred (tallyAt (dcell 2 c d) () N)) ∗ ((waits X 2 c 8 5 ∗ bigSep others (waitDone X 0 c)) -∗ Kt ⟨⟩))
      ⊢ run c (k0_part13 xM (Memref.isWhole_whole _) oM (Memref.isWhole_whole _) bM (Memref.isWhole_whole _) sM (Memref.isWhole_whole _) dM (Memref.isWhole_whole _)
        cc0_scratch3 cc0_scratch4 cc0_scratch5 cc0_scratch6 c) Kt := by
  simp only [k0_part13_eq_skeleton]; unfold k0_part13_skel
  simp only [semSignalWord, semWaitWord, Prog.lift, Prog.bind_op, Prog.bind_ret, Prog.pure_eq_ret, wp_deviceId]
  iintro ⟨#Hc, ⟨H, Hat, Hcr⟩, Hk⟩
  iapply (wait_step X K 0 c 8 6 (by decide) _ (semSend1 6 ![6] inb_S8_S1_6 rfl) (mayWait_done c _)) $$ [H]
  · isplitr; · iexact Hc
    iexact H
  iintro H
  iapply (wait_step X K 0 c 8 7 (by decide) _ (semSend1 7 ![7] inb_S8_S1_7 rfl) (mayWait_done c _)) $$ [H]
  · isplitr; · iexact Hc
    iexact H
  iintro H
  ihave H' := (waits_end X 0 c 8) $$ H
  icases H' with ⟨HO, Hdone⟩
  ihave H := (waits_start X 2 c 8) $$ [HO Hat Hcr]
  · isplitl [HO]; · iexact HO
    isplitl [Hat] <;> iassumption
  iapply (wait_step X K 2 c 8 1 (by decide) _ (semSend2 1 ![1] inb_S8_S1_1 rfl) (mayWait_done c _)) $$ [H]
  · isplitr; · iexact Hc
    iexact H
  iintro H
  iapply (wait_step X K 2 c 8 2 (by decide) _ (semSend2 2 ![2] inb_S8_S1_2 rfl) (mayWait_done c _)) $$ [H]
  · isplitr; · iexact Hc
    iexact H
  iintro H
  iapply (wait_step X K 2 c 8 3 (by decide) _ (semSend2 3 ![3] inb_S8_S1_3 rfl) (mayWait_done c _)) $$ [H]
  · isplitr; · iexact Hc
    iexact H
  iintro H
  iapply (wait_step X K 2 c 8 4 (by decide) _ (semSend2 4 ![4] inb_S8_S1_4 rfl) (mayWait_done c _)) $$ [H]
  · isplitr; · iexact Hc
    iexact H
  iintro H
  iapply (run_ret c)
  iapply Hk
  isplitl [H]; · iexact H
  iassumption

/-- The last three waits. -/
theorem part14_run (c : Dev nD) (Kt : PUnit → sProp 𝕄) :
    iprop(ctx X K ∗ waits X 2 c 8 5 ∗ (waits X 2 c 8 ((7 : Fin 8).val + 1) -∗ Kt ⟨⟩))
      ⊢ run c (.op (.waitDma2 ((cc0_scratch5.slice (Rect.unit (s := S8) ![5] S1.size inb_S8_S1_5)).squeeze S_ squeezes_S1_S_).sem
          (rowsM oM (k0_off3 c) (k0_off3_inb c)) dM ((Memref.isWhole_whole _).wordExact_slice rfl _ (k0_off3_wordsbf16 c)) (Memref.isWhole_whole _).wordExact) fun _ =>
        .op (.waitDma2 ((cc0_scratch5.slice (Rect.unit (s := S8) ![6] S1.size inb_S8_S1_6)).squeeze S_ squeezes_S1_S_).sem
          (rowsM oM (k0_off3 c) (k0_off3_inb c)) dM ((Memref.isWhole_whole _).wordExact_slice rfl _ (k0_off3_wordsbf16 c)) (Memref.isWhole_whole _).wordExact) fun _ =>
        .op (.waitDma2 ((cc0_scratch5.slice (Rect.unit (s := S8) ![7] S1.size inb_S8_S1_7)).squeeze S_ squeezes_S1_S_).sem
          (rowsM oM (k0_off3 c) (k0_off3_inb c)) dM ((Memref.isWhole_whole _).wordExact_slice rfl _ (k0_off3_wordsbf16 c)) (Memref.isWhole_whole _).wordExact) fun _ =>
        .ret ⟨⟩) Kt := by
  iintro ⟨#Hc, H, Hk⟩
  iapply (wait_step X K 2 c 8 5 (by decide) _ (semSend2 5 ![5] inb_S8_S1_5 rfl) (mayWait_done c _)) $$ [H]
  · isplitr; · iexact Hc
    iexact H
  iintro H
  iapply (wait_step X K 2 c 8 6 (by decide) _ (semSend2 6 ![6] inb_S8_S1_6 rfl) (mayWait_done c _)) $$ [H]
  · isplitr; · iexact Hc
    iexact H
  iintro H
  iapply (wait_step X K 2 c 8 7 (by decide) _ (semSend2 7 ![7] inb_S8_S1_7 rfl) (mayWait_done c _)) $$ [H]
  · isplitr; · iexact Hc
    iexact H
  iintro H
  iapply (run_ret c)
  iapply Hk
  iexact H

/-! ## The whole body -/

/-- Something at given contents for each offset is something at some contents for each. -/
theorem some_of {s : Finset (Fin 8)} {A : Fin 8 → Type} (Φ : (d : Fin 8) → A d → sProp 𝕄) (f : (d : Fin 8) → A d) :
    (bigSep s fun d => Φ d (f d)) ⊢ bigSep s fun d => iprop(∃ x, Φ d x) :=
  bigSep_mono fun d _ => show Φ d (f d) ⊢ iprop(∃ x, Φ d x) from by iintro H; iexists f d; iexact H

/-- Each of the device's positions at its cells. -/
def places (f : Fin 4) (c : Dev nD) : sProp 𝕄 := bigSep Finset.univ fun d : Fin 8 => atPos ER (dcell f c d) 0 ∅ 0
/-- A family's semaphores at zero. -/
def zeros (f : Fin 4) (c : Dev nD) : sProp 𝕄 := bigSep Finset.univ fun d : Fin 8 => semVal (dcell f c d) 0
/-- The duties of the signals. -/
def sigToks (c : Dev nD) : sProp 𝕄 := bigSep others fun d => dutyTok ER (barCell (ahead d c)) 0 (opp d)
/-- The credit of one of the families a device only receives on. -/
def credits (f : Fin 4) (c : Dev nD) : sProp 𝕄 := bigSep others fun d => cred (tallyAt (dcell f c d) () N)

/-- The signals can begin: each hands out a slot of the receive buffer and a block of rows of the result. -/
theorem sigs_start (c : Dev nD) (fs : Buf (Elt F) ((c : Thread nD τ).loc cc0_scratch1)) (fo : Buf (Elt F) ((c : Thread nD τ).loc cc0_stg1_0)) :
    iprop(debt c (Ow c 1 1 1) ∗ sigToks c ∗ whole c cc0_scratch1 fs ∗ whole c cc0_stg1_0 fo)
      ⊢ iprop(sigs c 1 ∗ slotPts c 0 fs ∗ outPts c c fo) := by
  have hs : whole c cc0_scratch1 fs = iprop(slotPts c 0 fs ∗ bigSep others fun d => slotPts c (opp d) fs) := by
    rw [← sep_opp (fun d => slotPts c d fs), ← sep_univ (fun d => slotPts c d fs)]
    exact Idealize.ShloMosaic.Ring.pointsTo_blocks (ℓ := (c : Thread nD τ).loc cc0_scratch1) (B := Fin 8) slotOf slotOf_disjoint slotOf_cover
      (q := fullShare) fs
  have ho : whole c cc0_stg1_0 fo = iprop(outPts c c fo ∗ bigSep others fun d => outPts c (ahead d c) fo) := by
    rw [← sep_ahead (fun t => outPts c t fo) c]
    exact Idealize.ShloMosaic.Ring.pointsTo_blocks (ℓ := (c : Thread nD τ).loc cc0_stg1_0) (B := Fin 8) rowsOf rowsOf_disjoint rowsOf_cover
      (q := fullShare) fo
  rw [hs, ho]
  unfold sigs sigToks
  rw [from_one]
  simp only [bigSep_sep']
  iintro ⟨HO, Ht, ⟨Hs0, Hs⟩, Ho0, Ho⟩
  isplitr [Hs0 Ho0]
  · isplitl [HO]; · iexact HO
    isplitl [Ht]; · iexact Ht
    isplitl [Hs]
    · iapply (some_of (fun d f => slotPts (F := F) c (opp d) f) fun _ => fs); iexact Hs
    · iapply (some_of (fun d f => outPts (F := F) c (ahead d c) f) fun _ => fo); iexact Ho
  isplitl [Hs0] <;> iassumption

/-- The receive buffer, whole again. -/
theorem slots_join (c : Dev nD) (f : Buf (Elt F) ((c : Thread nD τ).loc cc0_scratch1)) :
    iprop(slotPts c 0 f ∗ bigSep others fun d => slotPts c d (received X c)) ⊢ iprop(∃ g, whole (F := F) c cc0_scratch1 g) := by
  iintro ⟨H0, H⟩
  iapply (Idealize.ShloMosaic.Ring.pointsTo_blocks_join_exists (ℓ := (c : Thread nD τ).loc cc0_scratch1) (B := Fin 8) slotOf slotOf_disjoint slotOf_cover
      (q := fullShare) f)
  iapply (Entails.of_eq (sep_univ (fun d => iprop(∃ f, slotPts (F := F) c d f))).symm)
  isplitl [H0]
  · iexists f; iexact H0
  · iapply (some_of (fun d f => slotPts (F := F) c d f) fun _ => received X c); iexact H

/-- A semaphore no copy uses stands at zero all along. -/
theorem unused (f : Fin 4) (c : Dev nD) :
    iprop(ctx X K ∗ places f c) ⊢ |={Set.univ}=> iprop((bigSep others fun d => atPos ER (dcell f c d) 0 ∅ 0) ∗ semVal (dcell f c 0) 0) := by
  unfold places
  rw [sep_univ]
  iintro ⟨#Hc, Hat, Hrest⟩
  imod (Rounds.cell_close ER (sched X) (Set.mem_univ (K (c, some (f, 0)))) (fun h => h) (R := 0) (duties_none_all X c f)) $$ [Hat] with Hz
  · isplitr; · iapply (ctx_inv X K (c, some (f, 0))); iexact Hc
    iexact Hat
  imodintro
  isplitl [Hrest] <;> iassumption

/-- After the waits of a family: its semaphores at zero, and what its copies brought. -/
theorem done_split (f : Fin 4) (c : Dev nD) :
    iprop(semVal (dcell f c 0) 0 ∗ bigSep others (waitDone X f c)) ⊢ iprop(zeros f c ∗ bigSep others fun d => famPay X f c d) := by
  unfold zeros
  rw [sep_univ, bigSep_sep']
  iintro ⟨H0, H, H'⟩
  isplitr [H']
  · isplitl [H0] <;> iassumption
  iexact H'

/-- What the body starts from. -/
def bodyStart (c : Dev nD) : sProp 𝕄 :=
  iprop(ctx X K ∗ (atPos ER (barCell c) 0 ∅ 0 ∗ places 0 c ∗ places 1 c ∗ places 2 c ∗ places 3 c)
    ∗ (sigToks c ∗ firstToks c ∗ secondToks c) ∗ (cred (tallyAt (barCell c) () 7) ∗ credits 1 c ∗ credits 3 c)
    ∗ debt c (Ow c 1 1 1) ∗ whole c cc0_stg0_0 (X c) ∗ (∃ f, whole (F := F) c cc0_stg1_0 f)
    ∗ (∃ f, whole (F := F) c cc0_scratch0 f) ∗ (∃ f, whole (F := F) c cc0_scratch1 f) ∗ ∃ f, whole (F := F) c cc0_scratch2 f)
/-- What it leaves: every semaphore at zero, nothing owed, the result in its buffer. -/
def bodyEnd (c : Dev nD) : sProp 𝕄 :=
  iprop((semVal (barCell c) 0 ∗ zeros 0 c ∗ zeros 1 c ∗ zeros 2 c ∗ zeros 3 c)
    ∗ debt c 0 ∗ whole c cc0_stg0_0 (X c) ∗ whole c cc0_stg1_0 (result X)
    ∗ (∃ f, whole (F := F) c cc0_scratch0 f) ∗ (∃ f, whole (F := F) c cc0_scratch1 f) ∗ ∃ f, whole (F := F) c cc0_scratch2 f)

/-- The end of the body: the buffers are whole again, every semaphore is at zero, nothing is owed. -/
theorem body_end (c : Dev nD) (f : Buf (Elt F) ((c : Thread nD τ).loc cc0_scratch1)) :
    iprop(semVal (barCell c) 0 ∗ (semVal (dcell 0 c 0) 0 ∗ semVal (dcell 1 c 0) 0 ∗ semVal (dcell 2 c 0) 0 ∗ semVal (dcell 3 c 0) 0)
        ∗ (bigSep others (waitDone X 0 c) ∗ bigSep others (waitDone X 1 c) ∗ bigSep others (waitDone X 2 c) ∗ bigSep others (waitDone X 3 c))
        ∗ debt c (Ow c 8 8 8) ∗ whole c cc0_stg0_0 (X c) ∗ outPts c c (result X) ∗ copyPts X c c ∗ slotPts c 0 f)
      ⊢ bodyEnd X c := by
  unfold bodyEnd
  rw [Ow_done]
  iintro ⟨Hb, ⟨Z0, Z1, Z2, Z3⟩, ⟨D0, D1, D2, D3⟩, HO, Hx, Ho, Hc, Hs⟩
  ihave E0 := (done_split X 0 c) $$ [Z0 D0]
  · isplitl [Z0] <;> iassumption
  ihave E1 := (done_split X 1 c) $$ [Z1 D1]
  · isplitl [Z1] <;> iassumption
  ihave E2 := (done_split X 2 c) $$ [Z2 D2]
  · isplitl [Z2] <;> iassumption
  ihave E3 := (done_split X 3 c) $$ [Z3 D3]
  · isplitl [Z3] <;> iassumption
  icases E0 with ⟨Z0, P0⟩
  icases E1 with ⟨Z1, P1⟩
  icases E2 with ⟨Z2, P2⟩
  icases E3 with ⟨Z3, P3⟩
  isplitl [Hb Z0 Z1 Z2 Z3]
  · isplitl [Hb]; · iexact Hb
    isplitl [Z0]; · iexact Z0
    isplitl [Z1]; · iexact Z1
    isplitl [Z2] <;> iassumption
  isplitl [HO]; · iexact HO
  isplitl [Hx]; · iexact Hx
  isplitl [Ho P3]
  · iapply (Entails.of_eq (out_join X c).symm)
    isplitl [Ho]; · iexact Ho
    iexact P3
  isplitl [Hc P0]
  · iexists copied X c
    iapply (Entails.of_eq (copy_split X c).symm)
    isplitl [Hc]; · iexact Hc
    iexact P0
  isplitl [Hs P1]
  · iapply (slots_join X c f)
    isplitl [Hs]; · iexact Hs
    iexact P1
  · iexists reduced X c
    iapply (Entails.of_eq (red_split X c).symm)
    iexact P2

/-- The body runs on every device, from the launch's state to that end. -/
theorem sound_body (c : Dev nD) (Kt : PUnit → sProp 𝕄) :
    iprop(bodyStart X K c ∗ (bodyEnd X c -∗ Kt ⟨⟩))
      ⊢ run c (cc0_body xM (Memref.isWhole_whole _) oM (Memref.isWhole_whole _) bM (Memref.isWhole_whole _) sM (Memref.isWhole_whole _) dM (Memref.isWhole_whole _)
        cc0_scratch3 cc0_scratch4 cc0_scratch5 cc0_scratch6) Kt := by
  rw [cc0_body_eq_skeleton]; unfold cc0_body_skel bodyStart credits
  simp only [Prog.lift, Prog.bind_op, Prog.bind_ret, Prog.pure_eq_ret, wp_bind]
  iintro ⟨⟨#Hc, ⟨Ab, A0, A1, A2, A3⟩, ⟨Ts, T1, T2⟩, ⟨Cb, C1, C3⟩, HO, Hx, ⟨%fo, Ho⟩, Hb, ⟨%fs, Hs⟩, Hd⟩, Hk⟩
  imod (unused X K 0 c) $$ [A0] with ⟨A0, Z0⟩
  · isplitr; · iexact Hc
    iexact A0
  imod (unused X K 1 c) $$ [A1] with ⟨A1, Z1⟩
  · isplitr; · iexact Hc
    iexact A1
  imod (unused X K 2 c) $$ [A2] with ⟨A2, Z2⟩
  · isplitr; · iexact Hc
    iexact A2
  imod (unused X K 3 c) $$ [A3] with ⟨A3, Z3⟩
  · isplitr; · iexact Hc
    iexact A3
  ihave H := (sigs_start c fs fo) $$ [HO Ts Hs Ho]
  · isplitl [HO]; · iexact HO
    isplitl [Ts]; · iexact Ts
    isplitl [Hs] <;> iassumption
  icases H with ⟨H, Hs, Ho⟩
  iapply (part1_run X K c)
  isplitr; · iexact Hc
  isplitl [H]; · iexact H
  iintro %v2 %v24 H
  iapply (part2_run X K c)
  isplitr; · iexact Hc
  isplitl [H Ab Cb Hx Hb T1]
  · isplitl [H]; · iexact H
    isplitl [Ab]; · iexact Ab
    isplitl [Cb]; · iexact Cb
    isplitl [Hx]; · iexact Hx
    isplitl [Hb] <;> iassumption
  iintro %v38 %v50 ⟨H, Zb, Hx, Hout, Hown⟩
  iapply (part3_run X K c)
  isplitr; · iexact Hc
  isplitl [H]; · iexact H
  iintro %v62 %v74 H
  iapply (part4_run X K c)
  isplitr; · iexact Hc
  isplitl [H]; · iexact H
  iintro %v86 %v98 %v110 H
  iapply (part5_run X K c)
  isplitr; · iexact Hc
  isplitl [H Hx A1 C1]
  · isplitl [H]; · iexact H
    isplitl [Hx]; · iexact Hx
    isplitl [A1] <;> iassumption
  iintro ⟨H, Hx, C0⟩
  iapply (part6_run X K c)
  isplitr; · iexact Hc
  isplitl [H]; · iexact H
  iintro H
  iapply (part7_run X K c)
  isplitr; · iexact Hc
  isplitl [H]; · iexact H
  iintro H
  iapply (part8_run X K c)
  isplitr; · iexact Hc
  isplitl [H Hd Ho Hout T2]
  · isplitl [H]; · iexact H
    isplitl [Hd]; · iexact Hd
    isplitl [Ho]
    · iexists fo; iexact Ho
    isplitl [Hout] <;> iassumption
  iintro %v212 %v222 ⟨H, D1, Ho⟩
  iapply (part9_run X K c)
  isplitr; · iexact Hc
  isplitl [H]; · iexact H
  iintro %v232 %v242 %v252 %v261 H
  iapply (part10_run X K c)
  isplitr; · iexact Hc
  isplitl [H A3 C3]
  · isplitl [H]; · iexact H
    isplitl [A3] <;> iassumption
  iintro %v262 %v272 ⟨H, C2⟩
  iapply (part11_run X K c)
  isplitr; · iexact Hc
  isplitl [H]; · iexact H
  iintro H
  ihave H' := (waits_end X 3 c 8) $$ H
  icases H' with ⟨HO, D3⟩
  iapply (part12_run X K c)
  isplitr; · iexact Hc
  isplitl [HO A0 C0]
  · iapply (waits_start X 0 c 8)
    isplitl [HO]; · iexact HO
    isplitl [A0] <;> iassumption
  iintro H
  iapply (part13_run X K c)
  isplitr; · iexact Hc
  isplitl [H A2 C2]
  · isplitl [H]; · iexact H
    isplitl [A2] <;> iassumption
  iintro ⟨H, D0⟩
  iapply (part14_run X K c)
  isplitr; · iexact Hc
  isplitl [H]; · iexact H
  iintro H
  ihave H' := (waits_end X 2 c 8) $$ H
  icases H' with ⟨HO, D2⟩
  iapply Hk
  iapply (body_end X c fs)
  isplitl [Zb]; · iexact Zb
  isplitl [Z0 Z1 Z2 Z3]
  · isplitl [Z0]; · iexact Z0
    isplitl [Z1]; · iexact Z1
    isplitl [Z2] <;> iassumption
  isplitl [D0 D1 D2 D3]
  · isplitl [D0]; · iexact D0
    isplitl [D1]; · iexact D1
    isplitl [D2] <;> iassumption
  isplitl [HO]; · iexact HO
  isplitl [Hx]; · iexact Hx
  isplitl [Ho]; · iexact Ho
  isplitl [Hown] <;> iassumption

end Body

end Cert.KernelIdealProof

end
-- ==== Proof.KernelIdealLaunch.lean ====
/-
# `KernelIdealLaunch`: the run of the whole mesh

The launch hands every device its semaphores at zero and its buffers. From the semaphores the invariants of all cells are made at
once; the right to pay each duty goes to the device that pays it; the credit for what the other devices owe a device goes to
that device. Each device's body then runs as `KernelIdealBody` says, and the run ends with the argument untouched, the result
of every device at the assembled sums, and every semaphore at zero.
-/
module

public import proofs.«01_k».proof.Proof.KernelIdealBody
public import proofs.«01_k».proof.Proof.Gen.KernelIdeal.Points
public import Idealize.ShloMosaic.Lib.Pipeline.CollectiveSegs
public import Idealize.ShloMosaic.Lib.Pipeline.Value

@[expose] public section

noncomputable section

namespace Cert.KernelIdealProof

open Cert.KernelIdeal Cert.KernelIdeal.Gen Cert.Offsets
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.proofsInPublic true

variable {F : FTy → Type} [FloatOps F]

local notation "𝕄" => MT nD τ sig Unit (Elt F) ℕ UU ℕ

section Launch

variable (m : (ℓ : Loc nD τ sig) → Buf (Elt F) ℓ) (ρ : Dev nD → PrngReg)

/-! ## The data of the run -/

/-- The state the run begins in. -/
def s₀ : MemSt nD τ sig (Elt F) := ⟨m, fun _ => 0, ρ⟩

/-- The block each device works on, as staged. -/
def block (c : Dev nD) : Vec F S512x512 .bf16 := (win0_0.blk (0 : Fin 1)).view.read (Elt F) (m ((c : Thread nD τ).loc main_arg0))

/-- A device's positions, the duties it pays, and the credit it holds. -/
def linear (c : Dev nD) : sProp 𝕄 :=
  iprop((atPos ER (barCell c) 0 ∅ 0 ∗ places 0 c ∗ places 1 c ∗ places 2 c ∗ places 3 c) ∗ (sigToks c ∗ firstToks c ∗ secondToks c))
/-- The credit that a device holds: of its barrier and of the two receiving families. -/
def creds (c : Dev nD) : sProp 𝕄 := iprop(cred (tallyAt (barCell c) () 7) ∗ credits 1 c ∗ credits 3 c)
/-- What a device holds of the protocol at the start. -/
def ghost (c : Dev nD) : sProp 𝕄 := iprop(∃ K, records (block m) K ∗ linear c)
/-- What a device holds beside its buffers at the start. -/
def start (c : Dev nD) : sProp 𝕄 := iprop(ghost m c ∗ creds c ∗ levAts L lv)
/-- The buffers that belong to the kernel alone. -/
def scratch (c : Dev nD) : sProp 𝕄 :=
  iprop((∃ f, whole (F := F) c cc0_scratch0 f) ∗ (∃ f, whole (F := F) c cc0_scratch1 f) ∗ ∃ f, whole (F := F) c cc0_scratch2 f)
/-- Every semaphore of a device at zero. -/
def atZero (c : Dev nD) : sProp 𝕄 := iprop(semVal (barCell c) 0 ∗ zeros 0 c ∗ zeros 1 c ∗ zeros 2 c ∗ zeros 3 c)

/-- The data of the run: what the arrays hold before, what the windows hold after, what is held and owed before and after the one point. -/
def dats (_ : Fin 1) (c : Dev nD) : Dat τ (Elt F) Unit ℕ UU ℕ cfg0 c where
  A w := m ((cfg0.win w).arr.view.loc (c : Thread nD τ))
  after w _ := match w with
    | ⟨0, _⟩ => block m c
    | ⟨1, _⟩ => result (block m)
  Φ t := match t with
    | ⟨0, _⟩ => iprop(start m c ∗ scratch c)
    | ⟨_ + 1, _⟩ => iprop(atZero c ∗ scratch c)
  q _ := fullShare
  owed t := match t with
    | ⟨0, _⟩ => Ow c 1 1 1
    | ⟨_ + 1, _⟩ => 0

/-- Owning a whole buffer at given contents, spelt out. -/
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ whole c b g) := by
  unfold owns; simp only [Memref.view_whole, View.read_whole, View.set_whole]

/-! ## The body at its one point -/

/-- A staging buffer at given contents. -/
abbrev staged (c : Dev nD) (b : Ref sig .tc) (f : b.ty.Contents (Elt F)) : sProp 𝕄 :=
  iprop(∃ g : Buf (Elt F) ((c : Thread nD τ).loc b), ⌜g = f⌝ ∗ whole c b g)
/-- What a device holds before the one point of its grid, -/
def pointStart (c : Dev nD) : sProp 𝕄 :=
  iprop((start m c ∗ scratch c) ∗ (dats m 0 c).owesAt () (t0_0 : Fin cfg0.N).castSucc
    ∗ (∃ d, staged c cc0_stg0_0 ((dats m 0 c).before (0 : Fin 2) t0_0 d))
    ∗ (∃ d, staged c cc0_stg1_0 ((dats m 0 c).before (1 : Fin 2) t0_0 d)))
/-- and what it holds after it. -/
def pointEnd (c : Dev nD) : sProp 𝕄 :=
  iprop((atZero c ∗ scratch c) ∗ (dats m 0 c).owesAt () (t0_0 : Fin cfg0.N).succ
    ∗ staged c cc0_stg0_0 (block m c) ∗ staged c cc0_stg1_0 (result (block m)))

/-- The body's end gives what the point must leave. -/
theorem point_end (c : Dev nD) : bodyEnd (block m) c ⊢ pointEnd m c := by
  unfold bodyEnd pointEnd atZero scratch debt Dat.owesAt Pipeline.owesWithin
  iintro ⟨Hz, ⟨%W, HO⟩, Hx, Ho, Hb⟩
  isplitl [Hz Hb]
  · isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body runs from what the point starts with to what it must leave; -/
theorem point_run (c : Dev nD) :
    pointStart m c ⊢ run c (cc0_body xM (Memref.isWhole_whole _) oM (Memref.isWhole_whole _) bM (Memref.isWhole_whole _) sM (Memref.isWhole_whole _) dM (Memref.isWhole_whole _)
        cc0_scratch3 cc0_scratch4 cc0_scratch5 cc0_scratch6) fun _ => pointEnd m c := by
  unfold pointStart start ghost linear creds scratch
  iintro ⟨⟨⟨⟨%K, Hrec, Hpos, Htok⟩, Hcr, Hlev⟩, Hb, Hs, Hd⟩, Ho, ⟨%d0, %g0, %hg0, Hx⟩, ⟨%d1, %g1, %hg1, Hout⟩⟩
  have hx : g0 = block m c := by rw [hg0]; unfold Dat.before; rw [if_pos (fetch0_0 t0_0)]; rfl
  subst hx
  unfold Dat.owesAt Pipeline.owesWithin
  icases Ho with ⟨%W, %hW, HO⟩
  iapply (sound_body (block m) K c fun _ => pointEnd m c)
  isplitr []
  · unfold bodyStart ctx debt
    isplitl [Hrec Hlev]
    · isplitl [Hrec] <;> iassumption
    isplitl [Hpos]; · iexact Hpos
    isplitl [Htok]; · iexact Htok
    isplitl [Hcr]; · iexact Hcr
    isplitl [HO]
    · iexists W; iexact HO
    isplitl [Hx]; · iexact Hx
    isplitl [Hout]
    · iexists g1; iexact Hout
    isplitl [Hb]; · iexact Hb
    isplitl [Hs] <;> iassumption
  · iintro H
    iapply (point_end m c); iexact H

/-- so the body does what the data of the run say. -/
theorem body_obligation (c : Dev nD) : BodyObligation (dats (F := F) m 0 c) (defs₀ (F := F)) 𝒱₀ () Set.univ := fun t => by
  rw [fin_N0 t]
  rw [bigSep_W0, bigSep_W0]
  simp only [owns_whole]
  exact point_run m c

/-! ## The semaphores and their invariants -/

/-- The semaphores that belong to the kernel. -/
abbrev osem (p : Fin 4 × Fin 8) : SemLoc sig := csem (some p)

/-- The kernel's own semaphores are the scoped ones that stage nothing. -/
theorem ownSemFacts : Pipeline.OwnSemFacts cfg0.spec osem := by decide
/-- Every window's array is held whole. -/
theorem share_eq (c : Dev nD) (w : Fin cfg0.W) : (dats m 0 c).share w = fullShare := by unfold Dat.share; split <;> rfl

/-- Something for each of the four families. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- Something for every cell of a device: for its barrier, and for each family. -/
theorem cells_split (Φ : Option (Fin 4 × Fin 8) → sProp 𝕄) :
    bigSep Finset.univ Φ = iprop(Φ none ∗ (bigSep Finset.univ fun d => Φ (some (0, d))) ∗ (bigSep Finset.univ fun d => Φ (some (1, d)))
      ∗ (bigSep Finset.univ fun d => Φ (some (2, d))) ∗ bigSep Finset.univ fun d => Φ (some (3, d))) := by
  rw [sep_option, bigSep_univ_prod, four]

/-- The kernel's own semaphores at zero, family by family. -/
theorem own_sems (c : Dev nD) :
    (Pipeline.ownSems0 (Ix := Unit) (Name := ℕ) (U := UU) (Lvl := ℕ) (Val := Elt F) (τ := τ) osem c : sProp 𝕄)
      = iprop(zeros 0 c ∗ zeros 1 c ∗ zeros 2 c ∗ zeros 3 c) := by
  unfold Pipeline.ownSems0 zeros; rw [bigSep_univ_prod, four]; rfl
/-- The only semaphore outside the kernel's scope is the barrier's. -/
theorem barrier_sem (c : Dev nD) : (unscopedSems0 c : sProp 𝕄) = semVal (barCell c) 0 := by
  unfold unscopedSems0; rw [bigSep_eq_bigSepL_of_eq [SemLoc.reg barS] (by decide) (by decide)]; rfl

/-- Together they are all cells at zero. -/
theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k => semVal (cellAt (c, k)) 0 : sProp 𝕄) := by
  rw [own_sems, barrier_sem, cells_split]
  unfold zeros
  iintro ⟨H, HB⟩
  isplitl [HB]; · iexact HB
  iexact H

/-! ## The duties -/

/-- The right to the duty `p` names: of a barrier's duties, or of a DMA cell's one. -/
def duty (c : Dev nD) (p : Option (Fin 4) × Fin 8) : GSem nD τ sig × ℕ × Fin 8 := match p.1 with
  | none => (barCell c, 0, p.2)
  | some f => (dcell f c p.2, 0, 0)
/-- Different names stand for different duties. -/
theorem duty_inj : Function.Injective fun x : Dev nD × Option (Fin 4) × Fin 8 => duty x.1 x.2 := by
  rintro ⟨c, o, d⟩ ⟨c', o', d'⟩ h
  rcases o with _ | f <;> rcases o' with _ | f'
  · have h1 : cellAt (c, none) = cellAt (c', none) := congrArg (fun x : GSem nD τ sig × ℕ × Fin 8 => x.1) h
    have h2 : d = d' := congrArg (fun x : GSem nD τ sig × ℕ × Fin 8 => x.2.2) h
    have h3 := congrArg Prod.fst (cellAt_inj h1)
    rw [h2, show c = c' from h3]
  · have h1 : cellAt (c, none) = cellAt (c', some (f', d')) := congrArg (fun x : GSem nD τ sig × ℕ × Fin 8 => x.1) h
    exact absurd (congrArg Prod.snd (cellAt_inj h1)) (by simp)
  · have h1 : cellAt (c, some (f, d)) = cellAt (c', none) := congrArg (fun x : GSem nD τ sig × ℕ × Fin 8 => x.1) h
    exact absurd (congrArg Prod.snd (cellAt_inj h1)) (by simp)
  · have h1 : cellAt (c, some (f, d)) = cellAt (c', some (f', d')) := congrArg (fun x : GSem nD τ sig × ℕ × Fin 8 => x.1) h
    have h2 := cellAt_inj h1
    simp only [Prod.mk.injEq, Option.some.injEq] at h2
    obtain ⟨rfl, rfl, rfl⟩ := h2
    rfl

/-- All cells of the kernel on all devices; -/
def allCells : Finset (GSem nD τ sig) := Finset.univ.map ⟨cellAt, cellAt_inj⟩
/-- all duties on them; -/
def allDuties : Finset (GSem nD τ sig × ℕ × Fin 8) := Finset.univ.map ⟨_, duty_inj⟩
/-- and the ghost state that the launch begins with. -/
def u₀ : UU := (initOf (Pipeline.cells cfgs cellOf_inj) (Pipeline.launchToks cfgs cellOf_inj), initOf allCells allDuties)

/-- The rights to the duties of a device's own cells: of its barrier, of a family. -/
def barDuties (c : Dev nD) : sProp 𝕄 := bigSep Finset.univ fun e : Fin 8 => dutyTok ER (barCell c) 0 e
/-- The rights to the duties of a device's own cells of a family. -/
def famDuties (f : Fin 4) (c : Dev nD) : sProp 𝕄 := bigSep Finset.univ fun d : Fin 8 => dutyTok ER (dcell f c d) 0 0
/-- The rights to all duties of a device's own cells. -/
def duties (c : Dev nD) : sProp 𝕄 :=
  iprop(barDuties c ∗ famDuties 0 c ∗ famDuties 1 c ∗ famDuties 2 c ∗ famDuties 3 c)

/-- All duties, device by device. -/
theorem duties_all : bigSep allDuties (fun x => (dutyTok ER x.1 x.2.1 x.2.2 : sProp 𝕄)) = bigSep Finset.univ fun c : Dev nD => duties c := by
  unfold allDuties
  rw [bigSep_map, bigSep_univ_prod]
  refine bigSep_congr fun c _ => ?_
  rw [bigSep_univ_prod, sep_option, four]
  rfl

/-- What the launch deals device `c`. -/
def dealt (c : Dev nD) : sProp 𝕄 :=
  iprop((bigSep Finset.univ fun k => roundState ER (sched (block m)) (cellAt (c, k)) 0)
    ∗ (bigSep Finset.univ fun k => atPos ER (cellAt (c, k)) 0 ∅ 0) ∗ (bigSep Finset.univ fun k => reached ER (cellAt (c, k)) 0) ∗ duties c)

/-- The ghost state is dealt to the devices. -/
theorem fund_all : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun k => Φ (cellAt (c, k)) := by
    unfold allCells; rw [bigSep_map, bigSep_univ_prod]; rfl
  iintro H
  imod (Rounds.fund ER (sched (block m)) allCells allDuties) $$ H with ⟨Hst, Hr, Hat, Htok⟩
  imodintro
  ihave Hst := (Entails.of_eq (hX fun g => roundState ER (sched (block m)) g 0)) $$ Hst
  ihave Hr := (Entails.of_eq (hX fun g => reached ER g 0)) $$ Hr
  ihave Hat := (Entails.of_eq (hX fun g => atPos ER g 0 ∅ 0)) $$ Hat
  ihave Htok := (Entails.of_eq duties_all) $$ Htok
  unfold dealt; simp only [bigSep_sep']
  isplitl [Hst]; · iexact Hst
  isplitl [Hat]; · iexact Hat
  isplitl [Hr] <;> iassumption

/-- A device's semaphores and what it was dealt give the invariants of its cells. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched (block m)) κ (cellAt (c, k))))
          ∗ (bigSep Finset.univ fun k => atPos ER (cellAt (c, k)) 0 ∅ 0) ∗ (bigSep Finset.univ fun k => reached ER (cellAt (c, k)) 0) ∗ duties c) := by
  unfold dealt
  iintro ⟨Hos, Hus, Hst, Hrest⟩
  ihave Hv := (sems_zero (F := F) c) $$ [Hos Hus]
  · isplitl [Hos] <;> iassumption
  imod (show iprop((bigSep Finset.univ fun k => semVal (cellAt (c, k)) 0) ∗ bigSep Finset.univ fun k => roundState ER (sched (block m)) (cellAt (c, k)) 0)
      ⊢ (|={Set.univ}=> bigSep Finset.univ fun k => iprop(∃ κ : ℕ, cellInv ER (sched (block m)) κ (cellAt (c, k))) : sProp 𝕄) from by
        rw [← bigSep_sep']
        exact (bigSep_mono fun k _ => (Rounds.body_intro ER (sched (block m)) (cellAt (c, k))).trans inv_alloc).trans (bigSep_fupd _ _)) $$ [Hv Hst] with Hinv
  · isplitl [Hv] <;> iassumption
  imodintro
  isplitl [Hinv] <;> iassumption

/-! ## Who pays what -/

/-- Something for every pair of a device and an offset, counted along a re-pairing. -/
theorem repair (e : Fin 8 × Fin 8 ≃ Fin 8 × Fin 8) (Φ : Fin 8 → Fin 8 → sProp 𝕄) :
    (bigSep Finset.univ fun c : Fin 8 => bigSep Finset.univ fun d : Fin 8 => Φ c d)
      = bigSep Finset.univ fun c : Fin 8 => bigSep Finset.univ fun d : Fin 8 => Φ (e (c, d)).1 (e (c, d)).2 := by
  rw [← bigSep_univ_prod (fun p : Fin 8 × Fin 8 => Φ p.1 p.2), bigSep_univ_equiv e, bigSep_univ_prod]

/-- What is there for every offset is there for the seven. -/
theorem drop_zero (Φ : Fin 8 → sProp 𝕄) : bigSep Finset.univ Φ ⊢ bigSep others Φ := by
  rw [sep_univ]; iintro ⟨-, H⟩; iexact H

/-- The duties of the barriers go to the devices that signal, -/
theorem bar_dealt : (bigSep Finset.univ fun c : Dev nD => (barDuties c : sProp 𝕄)) ⊢ bigSep Finset.univ fun c : Dev nD => sigToks c :=
  (Entails.of_eq (repair swapPair fun c e => (dutyTok ER (barCell c) 0 e : sProp 𝕄))).trans (bigSep_mono fun c _ => drop_zero _)
/-- those of a sending family stay, -/
theorem fam_kept (f : Fin 4) : (bigSep Finset.univ fun c : Dev nD => (famDuties f c : sProp 𝕄))
    ⊢ bigSep Finset.univ fun c : Dev nD => bigSep others fun d => dutyTok ER (dcell f c d) 0 0 :=
  bigSep_mono fun c _ => drop_zero _
/-- and those of a receiving family go to the devices that send. -/
theorem fam_dealt (f : Fin 4) : (bigSep Finset.univ fun c : Dev nD => (famDuties f c : sProp 𝕄))
    ⊢ bigSep Finset.univ fun c : Dev nD => bigSep others fun d => dutyTok ER (dcell f (ahead d c) d) 0 0 :=
  (Entails.of_eq (repair aheadPair fun c d => (dutyTok ER (dcell f c d) 0 0 : sProp 𝕄))).trans (bigSep_mono fun c _ => drop_zero _)

/-- So every duty reaches the device that pays it. -/
theorem duties_dealt : (bigSep Finset.univ fun c : Dev nD => (duties c : sProp 𝕄))
    ⊢ bigSep Finset.univ fun c : Dev nD => iprop(sigToks c ∗ firstToks c ∗ secondToks c) := by
  unfold duties firstToks secondToks
  simp only [bigSep_sep']
  iintro ⟨HB, H0, H1, H2, H3⟩
  isplitl [HB]; · iapply bar_dealt; iexact HB
  isplitl [H0 H1]
  · isplitl [H0]; · iapply (fam_kept 0); iexact H0
    iapply (fam_dealt 1); iexact H1
  · isplitl [H2]; · iapply (fam_kept 2); iexact H2
    iapply (fam_dealt 3); iexact H3

/-- What is known of all cells and a device's own part make what it holds of the protocol. -/
theorem ghost_intro (K : Dev nD × Option (Fin 4 × Fin 8) → ℕ) (c : Dev nD) : iprop(records (block m) K ∗ linear c) ⊢ ghost m c := by
  unfold ghost; iintro H; iexists K; iexact H

/-- The places and the dealt duties are every device's own part. -/
theorem linear_all :
    iprop((bigSep Finset.univ fun c : Dev nD => bigSep Finset.univ fun k => atPos ER (cellAt (c, k)) 0 ∅ 0)
        ∗ bigSep Finset.univ fun c : Dev nD => iprop(sigToks c ∗ firstToks c ∗ secondToks c))
      ⊢ (bigSep Finset.univ fun c : Dev nD => linear c : sProp 𝕄) := by
  refine Entails.of_eq ?_
  rw [← bigSep_sep']
  refine bigSep_congr fun c _ => ?_
  rw [cells_split]
  rfl

/-- Something that lasts may be used for each of many. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants are shared by all, and everything else goes where it belongs. -/
theorem regroup :
    (bigSep Finset.univ fun c : Dev nD => iprop((bigSep Finset.univ fun k => iprop(∃ κ : ℕ, cellInv ER (sched (block m)) κ (cellAt (c, k))))
          ∗ (bigSep Finset.univ fun k => atPos ER (cellAt (c, k)) 0 ∅ 0) ∗ (bigSep Finset.univ fun k => reached ER (cellAt (c, k)) 0) ∗ duties c) : sProp 𝕄)
      ⊢ bigSep Finset.univ (ghost m) := by
  rw [bigSep_sep', bigSep_sep', bigSep_sep', ← bigSep_univ_prod (fun p : Dev nD × Option (Fin 4 × Fin 8) => iprop(∃ κ : ℕ, cellInv ER (sched (block m)) κ (cellAt p))),
    ← bigSep_univ_prod (fun p : Dev nD × Option (Fin 4 × Fin 8) => (reached ER (cellAt p) 0 : sProp 𝕄))]
  iintro ⟨HI, Hat, HR, Htok⟩
  ihave HK := (BI.bigSep_exists_pi Finset.univ (fun (p : Dev nD × Option (Fin 4 × Fin 8)) (κ : ℕ) => (cellInv ER (sched (block m)) κ (cellAt p) : sProp 𝕄))) $$ HI
  icases HK with ⟨%K, HI⟩
  ihave Htk := (duties_dealt (F := F)) $$ Htok
  iapply (beside (R := records (block m) K) fun c _ => ghost_intro m K c)
  isplitl [HI HR]
  · unfold records; rw [bigSep_sep']
    isplitl [HI] <;> iassumption
  · iapply (linear_all (F := F))
    isplitl [Hat] <;> iassumption

/-- From the semaphores and what the launch deals, every device gets what it holds of the protocol. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => core_alloc m c).trans (bigSep_fupd _ _)).trans (BI.fupd_mono (regroup m))

/-! ## The credit -/

/-- What `d` owes to a cell at the start, cell by cell. -/
theorem due (d : Dev nD) (g : GSem nD τ sig) : Ow d 1 1 1 g () = (∑ e ∈ others, if g = dcell 3 (ahead e d) e then N else 0)
    + (∑ e ∈ others, if g = dcell 1 (ahead e d) e then N else 0) + ∑ e ∈ others, if g = barCell (ahead e d) then 1 else 0 := by
  unfold Ow
  rw [from_one, Pi.add_apply, Finsupp.add_apply, Pi.add_apply, Finsupp.add_apply]
  simp only [Finset.sum_apply, Finsupp.finset_sum_apply, tallyAt_apply, and_true]

/-- Two cells are the same only if their names are. -/
theorem cell_iff (a b : Dev nD × Option (Fin 4 × Fin 8)) : cellAt a = cellAt b ↔ a = b := cellAt_inj.eq_iff

/-- A barrier is owed seven units in all. -/
theorem due_bar (c : Dev nD) : ∑ d, Ow d 1 1 1 (barCell c) () = 7 := by
  have h3 (d : Dev nD) (e : Fin 8) : ¬ barCell c = dcell 3 (ahead e d) e := fun h => by
    have := (cell_iff (c, none) (ahead e d, some (3, e))).mp h; simp at this
  have h1 (d : Dev nD) (e : Fin 8) : ¬ barCell c = dcell 1 (ahead e d) e := fun h => by
    have := (cell_iff (c, none) (ahead e d, some (1, e))).mp h; simp at this
  have h0 (d : Dev nD) (e : Fin 8) : (barCell c = barCell (ahead e d)) = (c = ahead e d) := propext
    ⟨fun h => congrArg Prod.fst ((cell_iff (c, none) (ahead e d, none)).mp h), fun h => by rw [h]⟩
  simp only [due, h3, h1, h0, if_false, Finset.sum_const_zero, Nat.zero_add]
  revert c; decide

/-- Of all pairs of a device and an offset exactly one leads to `c` by `e`. -/
theorem due_once (c e : Fin 8) (he : e ≠ 0) (n : ℕ) :
    (∑ d : Fin 8, ∑ x ∈ others, if c = ahead x d ∧ e = x then n else 0) = n := by
  rw [Finset.sum_eq_single (behind e c), Finset.sum_eq_single e]
  · rw [if_pos ⟨(ahead_behind e c).symm, rfl⟩]
  · intro x _ hx; rw [if_neg fun h => hx h.2.symm]
  · intro h; exact absurd (mem_others.mpr he) h
  · intro d _ hd
    refine Finset.sum_eq_zero fun x _ => if_neg fun h => hd ?_
    rw [h.1, ← h.2, behind_ahead]
  · intro h; exact absurd (Finset.mem_univ _) h

/-- A receiving cell is owed one block's credit in all. -/
theorem due_recv (f : Fin 4) (hf : f = 1 ∨ f = 3) (c : Dev nD) (e : Fin 8) (he : e ≠ 0) : ∑ d, Ow d 1 1 1 (dcell f c e) () = N := by
  have hs (f' : Fin 4) (h : f = f') (d : Dev nD) (x : Fin 8) : (dcell f c e = dcell f' (ahead x d) x) = (c = ahead x d ∧ e = x) := propext
    ⟨fun h' => by have := (cell_iff (c, some (f, e)) (ahead x d, some (f', x))).mp h'; simp at this; exact ⟨this.1, this.2.2⟩,
      fun ⟨h1, h2⟩ => by subst h2; subst h; rw [h1]⟩
  have hn (f' : Fin 4) (h : f ≠ f') (d : Dev nD) (x : Fin 8) : ¬ dcell f c e = dcell f' (ahead x d) x := fun h' => by
    have := (cell_iff (c, some (f, e)) (ahead x d, some (f', x))).mp h'; simp at this; exact h this.2.1
  have h0 (d : Dev nD) (x : Fin 8) : ¬ dcell f c e = barCell (ahead x d) := fun h => by
    have := (cell_iff (c, some (f, e)) (ahead x d, none)).mp h; simp at this
  rcases hf with rfl | rfl
  · simp only [due, hs 1 rfl, hn 3 (by decide), h0, if_false, Finset.sum_const_zero, Nat.add_zero, Nat.zero_add]
    exact due_once c e he N
  · simp only [due, hs 3 rfl, hn 1 (by decide), h0, if_false, Finset.sum_const_zero, Nat.add_zero]
    exact due_once c e he N

/-- The credit which the launch makes for a cell is what that cell is owed. -/
theorem launch_tally (g : SemLoc sig) (c : Dev nD) (n : ℕ) (h : ∑ d, Ow d 1 1 1 ((c : Thread nD τ), g) () = n) :
    tallyOn ((c : Thread nD τ), g) (launchCredit (Pipeline.owing fun d => Ow d 1 1 1) 0 ((c : Thread nD τ), g))
      = (tallyAt ((c : Thread nD τ), g) () n : CellTallies nD τ sig Unit) := by
  unfold tallyAt
  refine congrArg _ (Finsupp.ext fun u => ?_)
  cases u
  rw [Pipeline.launchCredit_owing, Finsupp.single_eq_same, h]

/-- Something for every semaphore of a device gives it for each of the kernel's. -/
theorem launch_cells (Φ : SemLoc sig → sProp 𝕄) :
    bigSep Finset.univ Φ ⊢ iprop(Φ (.reg barS) ∗ (bigSep Finset.univ fun d => Φ (.dma (dsem 0 d))) ∗ (bigSep Finset.univ fun d => Φ (.dma (dsem 1 d)))
      ∗ (bigSep Finset.univ fun d => Φ (.dma (dsem 2 d))) ∗ bigSep Finset.univ fun d => Φ (.dma (dsem 3 d))) :=
  (bigSep_subset (Finset.subset_univ (Finset.univ.map ⟨csem, csem_inj⟩))).trans
    (Entails.of_eq ((bigSep_map (e := ⟨csem, csem_inj⟩) (s := Finset.univ) (Φ := Φ)).trans (cells_split fun k => Φ (csem k))))

/-- The credit of a receiving family, as the launch deals it. -/
theorem credits_of (f : Fin 4) (hf : f = 1 ∨ f = 3) (c : Dev nD) :
    (bigSep Finset.univ fun e => cred (tallyOn ((c : Thread nD τ), .dma (dsem f e)) (launchCredit (Pipeline.owing fun d => Ow d 1 1 1) 0 ((c : Thread nD τ), .dma (dsem f e)))))
      ⊢ (credits f c : sProp 𝕄) :=
  (drop_zero _).trans (bigSep_mono fun e he => Entails.of_eq (congrArg cred (launch_tally (.dma (dsem f e)) c N (due_recv f hf c e (mem_others.mp he)))))

/-- So the launch's credit is the credit that a device holds. -/
theorem creds_intro (c : Dev nD) : (Pipeline.launchCred (fun d => Ow d 1 1 1) c : sProp 𝕄) ⊢ creds c := by
  unfold Pipeline.launchCred creds
  iintro H
  ihave H := (launch_cells (F := F) fun g => cred (tallyOn ((c : Thread nD τ), g) (launchCredit (Pipeline.owing fun d => Ow d 1 1 1) 0 ((c : Thread nD τ), g)))) $$ H
  icases H with ⟨HB, -, H1, -, H3⟩
  isplitl [HB]
  · iapply (Entails.of_eq (congrArg cred (launch_tally (.reg barS) c 7 (due_bar c)))); iexact HB
  isplitl [H1]
  · iapply (credits_of 1 (Or.inl rfl) c); iexact H1
  · iapply (credits_of 3 (Or.inr rfl) c); iexact H3

/-! ## The run -/

/-- What the launch leaves a device is what it holds at the start. -/
theorem start_intro (c : Dev nD) :
    iprop(Pipeline.unscopedRestP Pipeline.Prefetch.none cfg0.spec c (fun b => m ((c : Thread nD τ).loc b)) ∗ levAts L lv
        ∗ Pipeline.launchCred (fun d => Ow d 1 1 1) c ∗ prngReg c (ρ c) ∗ ghost m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

/-- With the kernel's buffers that is what the point starts from; -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

/-- and what the point leaves gives them back, with every semaphore at zero. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(atZero c ∗ scratch c) from rfl, scopedRest0_eq, own_sems, barrier_sem]
  unfold atZero scratch
  iintro ⟨⟨HB, Hz⟩, Hr⟩
  isplitl [HB]; · iexact HB
  isplitl [Hz] <;> iassumption

/-- The waits of the staging are allowed. -/
theorem stage_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What each window's array holds in the end. -/
def final (c : Dev nD) (w : Fin cfg0.W) : Buf (Elt F) ((cfg0.win w).arr.view.loc (c : Thread nD τ)) := (dats m 0 c).arrAt w cfg0.N

set_option maxRecDepth 8000 in
/-- Every fair run of the eight devices ends, with the arrays as `final` says and every semaphore at zero. -/
theorem run_arrays : θ_run defs (onTc (τ := τ) (main (F := F))) (s₀ m ρ) (fun r =>
    (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => Ow d 1 1 1) (howed₀ := fun _ => rfl) (howedN := fun _ => rfl)
    (L := L) (lv := lv) (hL := L_of_ne) (hwaits := stage_waits m)
    (G := dealt m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held; -/
theorem final_arg (c : Dev nD) : final m c (0 : Fin 2) = m ((c : Thread nD τ).loc main_arg0) :=
  (dats (F := F) m 0 c).arrAt_in (0 : Fin 2) rfl _

/-- The one block of each window is its whole array. -/
theorem block_eq (c : Dev nD) : block m c = m ((c : Thread nD τ).loc main_arg0) := by
  unfold block
  have h : ∀ a, win0_0.index (0 : Fin 1) a * win0_0.size a = 0 := by decide +kernel
  exact Memref.read_access_unit_zero (Elt F) main_arg0 (funext h) _ _

/-- What is written back to the result's array is the result. -/
theorem flushed_eq (c : Dev nD) (t : Fin cfg0.N) :
    (dats m 0 c).flushed (1 : Fin 2) t = ((cfg0.win 1).blk t).view.read (Elt F) (result (block m)) := by
  obtain rfl := fin_N0 t
  have ha : (dats m 0 c).after (1 : Fin 2) t0_0 = result (block m) := by dsimp only [dats]
  unfold Dat.flushed
  rw [ha]
  have h : ∀ a, win0_1.index (0 : Fin 1) a * win0_1.size a = 0 := by decide +kernel
  refine Eq.trans ?_ (Memref.read_access_unit_zero (Elt F) main_v1 (funext h) _ _).symm
  rfl

/-- It covers the whole array. -/
theorem covered (i : S512x512.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have e : ∀ a, win0_1.index t0_0 a * win0_1.size a = 0 ∧ win0_1.xsize (grid0.coords t0_0) a = S512x512.size a := by decide +kernel
  intro a
  show win0_1.index t0_0 a * win0_1.size a ≤ (i a : Nat) ∧ (i a : Nat) < win0_1.index t0_0 a * win0_1.size a + win0_1.xsize (grid0.coords t0_0) a
  rw [(e a).1, (e a).2]
  have := (i a).isLt
  omega

/-- The result's array holds the sums. -/
theorem final_result (c : Dev nD) : final m c (1 : Fin 2) = result (block m) :=
  (dats m 0 c).arrAt_eq_of_cover (1 : Fin 2) (result (block m)) (fun t _ => flushed_eq m c t) covered

/-- What a device's argument holds at the start. -/
abbrev argument (c : Dev nD) : Vec F S512x512 .bf16 := m ((c : Thread nD τ).loc main_arg0)

/-- The run of the mesh. -/
theorem run_main : θ_run defs (onTc (τ := τ) (main (F := F))) ⟨m, fun _ => 0, ρ⟩ (fun r =>
    (∀ c : Dev nD, r.2.mem ((c : Thread nD τ).loc main_v1) = result (argument m)
      ∧ r.2.mem ((c : Thread nD τ).loc main_arg0) = m ((c : Thread nD τ).loc main_arg0)) ∧ r.2.sem = fun _ => 0) := by
  have hb : block m = argument m := funext fun d => block_eq m d
  refine (θ_run defs _ _).mono (fun r h => ⟨fun c => ⟨?_, (h.1 c (0 : Fin 2)).trans (final_arg m c)⟩, h.2⟩) (run_arrays m ρ)
  rw [← hb]
  exact (h.1 c (1 : Fin 2)).trans (final_result m c)

end Launch

end Cert.KernelIdealProof

end
-- ==== Proof.Value.lean ====
/-
# `Value`: the kernel's result is the reference's sum

At the ideal instance a change of format keeps the value and addition is that of the extended reals, commutative and
associative. So each device's running sum over the offsets, its own rows first, is the sum over all eight devices of the
element in one place (`result_apply`); and the reference, which reshapes the whole array into the eight blocks and adds them,
has the same sum there (`reference_apply`).
-/
module

public import proofs.«01_k».proof.Proof.KernelIdealSchedule
public import proofs.«01_k».proof.Proof.Gen.ReferenceIdeal
public import Idealize.ShloMosaic.Lib.Layout
public import Idealize.ShloMosaic.Lib.ValueLayout
public import Idealize.ShloMosaic.Lib.Pipeline.Value
public import Idealize.ShloMosaic.Lib.Pointwise
public import Idealize.ShloMosaic.PureOps.Ideal.Laws

@[expose] public section

noncomputable section

namespace Cert.Value

open Cert.Offsets Cert.KernelIdealProof
open Idealize.ShloMosaic hiding ix2 ix3
open Idealize.ShloMosaic.ValueIdx (ix2 ix3)

/-- The shape of one block, of the whole array, and of the eight blocks one after the other. -/
abbrev Part : Shape := ⟨2, ![512, 512]⟩
/-- The shape of the whole array. -/
abbrev Whole : Shape := ⟨2, ![4096, 512]⟩
/-- The shape of the eight blocks one after the other. -/
abbrev Parts : Shape := ⟨3, ![8, 512, 512]⟩

/-! ## The kernel's side -/

section Kernel

variable (X : Fin 8 → Vec Ideal Part .bf16)

/-- The place in a block of the element `(r, l)` of the rows of `c`. -/
abbrev place (c : Fin 8) (r : Fin 64) (l : Fin 512) : Part.Idx := ix2 ⟨64 * c.val + r.val, by omega⟩ l

/-- What arrived in slot `d` on `c`, as a block of rows, is those rows of the device `d` places behind. -/
theorem slot_apply (c d : Fin 8) (h) (r : Fin 64) (l : Fin 512) :
    shapeCast Cert.KernelIdeal.S64x512 (slotAt X c d) h (ix2 r l) = X (behind d c) (place c r l) := by
  refine (ValueIdx.shapeCast_1ab_ab_apply (slotAt X c d) h r l).trans ?_
  unfold slotAt received copied Cert.KernelIdeal.Gen.k0_pay1
  dsimp only
  rw [shapeCast_self, shapeCast_self]

/-- What a device sends on: its own rows and the seven received ones, added in the order of the offsets. -/
theorem reduced_apply (c : Fin 8) (r : Fin 64) (l : Fin 512) :
    reduced X c (ix2 r l) = X c (place c r l) + X (behind 1 c) (place c r l) + X (behind 2 c) (place c r l) + X (behind 3 c) (place c r l)
      + X (behind 4 c) (place c r l) + X (behind 5 c) (place c r l) + X (behind 6 c) (place c r l) + X (behind 7 c) (place c r l) := by
  simp only [← slot_apply X c _ Cert.KernelIdeal.Gen.shapeCasts_S1x64x512_S64x512 r l]
  unfold reduced sum6 sum4 sum1 Cert.KernelIdeal.Gen.k0_pay5 Cert.KernelIdeal.Gen.k0_pay4 Cert.KernelIdeal.Gen.k0_pay3 Cert.KernelIdeal.Gen.k0_pay2
  dsimp only
  rw [shapeCast_self, shapeCast_self]
  rfl

/-- The eight devices, counted backwards from one of them. -/
theorem sum_behind (c : Fin 8) (f : Fin 8 → EReal) :
    f c + f (behind 1 c) + f (behind 2 c) + f (behind 3 c) + f (behind 4 c) + f (behind 5 c) + f (behind 6 c) + f (behind 7 c) = ∑ e, f e := by
  rw [← Equiv.sum_comp (behindEquiv c) f, Fin.sum_univ_eight]
  have h : behind 0 c = c := by revert c; decide
  show _ = f (behind 0 c) + _ + _ + _ + _ + _ + _ + _
  rw [h]
  rfl

/-- Each element of the result is the sum over the devices of the element there. -/
theorem result_apply (i : Part.Idx) : result X i = ∑ e, X e i := by
  have hi : (i 0).val < 512 := (i 0).isLt
  unfold result
  refine (reduced_apply X _ _ _).trans ?_
  have hp : place ⟨(i 0).val / 64, by omega⟩ ⟨(i 0).val % 64, Nat.mod_lt _ (by decide)⟩ (i 1) = i := by
    funext a
    match a with
    | ⟨0, _⟩ => exact Fin.ext (Nat.div_add_mod _ _)
    | ⟨1, _⟩ => rfl
  rw [hp]
  exact sum_behind _ fun e => X e i

end Kernel

/-! ## The reference's side -/

/-- What the reference ends with, from the whole array. -/
abbrev referenceSum (V : Vec Ideal Whole .bf16) : Vec Ideal Part .bf16 :=
  truncf (F := Ideal) .bf16 (Host.reduceAdd (extf .f32 (shapeCast Cert.ReferenceIdeal.S8x512x512 V Cert.ReferenceIdeal.Gen.shapeCasts_S4096x512_S8x512x512)
      Cert.ReferenceIdeal.Gen.bitsLt_bf16_f32) (constant Cert.ReferenceIdeal.S_ .f32 0x00000000#32)
    Cert.ReferenceIdeal.Gen.reducesTo_S8x512x512_S512x512_d0 Cert.ReferenceIdeal.Gen.h_S_) Cert.ReferenceIdeal.Gen.bitsLt_bf16_f32

/-- The reshaped array at `(e, a, b)` is block `e` of the whole at `(a, b)`. -/
theorem split_apply (V : Vec Ideal Whole .bf16) (h : Whole.ShapeCasts Parts) (e : Fin 8) (a b : Fin 512) :
    shapeCast Parts V h (ix3 e a b) = Layout.block Part Whole 0 8 e V (by decide) (ix2 a b) :=
  shapeCast_apply V h _ _ (by
    rw [Shape.rowMajor_val_three, Shape.rowMajor_val_two]
    show (e.val * 512 + a.val) * 512 + b.val = (e.val * 512 + a.val) * 512 + b.val
    rfl)

/-- Each element of the reference's result is the sum over the blocks of the element there. -/
theorem reference_apply (V : Vec Ideal Whole .bf16) (i : Part.Idx) :
    referenceSum V i = ∑ e, Layout.block Part Whole 0 8 e V (by decide) i := by
  show FloatOps.hostReduceAdd _ Cert.ReferenceIdeal.Gen.reducesTo_S8x512x512_S512x512_d0 .single _ (Ideal.ofBits .f32 0x00000000#32) i = _
  rw [Ideal.hostReduceAdd_def, Ideal.hostReduceAdd_r3_a0, Ideal.ofBits_zero_f32, zero_add]
  refine Finset.sum_congr rfl fun e _ => ?_
  refine (split_apply V _ e (i 0) (i 1)).trans ?_
  congr 1
  funext a
  match a with
  | ⟨0, _⟩ => rfl
  | ⟨1, _⟩ => rfl

/-- The two sides agree where each device starts with its block of the whole array. -/
theorem result_eq (X : Fin 8 → Vec Ideal Part .bf16) (V : Vec Ideal Whole .bf16)
    (h : ∀ c, X c = Layout.block Part Whole 0 8 c V (by decide)) : result X = referenceSum V := by
  funext i
  rw [result_apply X, reference_apply]
  exact Finset.sum_congr rfl fun e _ => by rw [h e]

end Cert.Value

end
-- ==== Proof.lean ====
/-
# The proof of `Cert.Claim`

The three frames are the runs of the three programs with the values dropped; `preserves` has nothing to say, because no
operation was replaced; and `algebraic` is the run of the kernel at the ideal instance, the run of the reference, and the
equation between what they end with (`Proof/Value`).
-/
module

public import proofs.«01_k».proof.Defs
public import proofs.«01_k».proof.Proof.KernelLaunch
public import proofs.«01_k».proof.Proof.KernelIdealLaunch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs, keeps its argument, and leaves every semaphore at zero. -/
theorem frame_kernel : Cert.quiescent_Kernel := fun m g _ =>
  (θ_run Cert.Kernel.defs _ _).mono (fun _ h => ⟨fun c => (h.1 c).2, h.2⟩) (Cert.KernelProof.run_main (F := Bits) m g)

/-- So does the kernel at the ideal instance, -/
theorem frame_kernelIdeal : Cert.quiescent_KernelIdeal := fun m g _ =>
  (θ_run Cert.KernelIdeal.defs _ _).mono (fun _ h => ⟨fun c => (h.1 c).2, h.2⟩) (Cert.KernelIdealProof.run_main (F := Ideal) m g)

/-- and the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is the reference's sum of the eight blocks. -/
theorem algebraic : Cert.algebraic_KernelIdeal_ReferenceIdeal := by
  intro m g m' g' _ hagree
  refine ⟨Cert.Value.referenceSum (m' (((0 : Dev Cert.ReferenceIdeal.nD).tc : Thread _ Cert.ReferenceIdeal.τ).loc Cert.ReferenceIdeal.main_arg0)), ?_, ?_⟩
  · exact (θ_run Cert.KernelIdeal.defs _ _).mono (fun _ h c => ⟨(h.1 c).1.trans (Cert.Value.result_eq _ _ hagree), (h.1 c).2⟩)
      (Cert.KernelIdealProof.run_main (F := Ideal) m g)
  · exact (θ_run Cert.ReferenceIdeal.defs _ _).mono (fun _ h => h 0) (Cert.ReferenceIdeal.Value.run (F := Ideal) m' g')

/-- All that is claimed: the three programs run to their ends and keep their arguments, and the idealized kernel computes what the idealized reference does. That idealizing preserves the kernel is `True` here, since nothing was rewritten. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
